-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S1024x8192 : Shape := ⟨2, ![1024, 8192]⟩
abbrev S2x1024x1024 : Shape := ⟨3, ![2, 1024, 1024]⟩
abbrev S2x512x2048 : Shape := ⟨3, ![2, 512, 2048]⟩
abbrev S2x1024x512 : Shape := ⟨3, ![2, 1024, 512]⟩
abbrev S2x512x512 : Shape := ⟨3, ![2, 512, 512]⟩
abbrev S512x2048 : Shape := ⟨2, ![512, 2048]⟩
abbrev S4 : Shape := ⟨1, ![4]⟩
abbrev S4x4 : Shape := ⟨2, ![4, 4]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x512x2048 : Shape := ⟨3, ![1, 512, 2048]⟩
abbrev S1024x2048 : Shape := ⟨2, ![1024, 2048]⟩
abbrev S1024x512 : Shape := ⟨2, ![1024, 512]⟩
abbrev S1x1024x512 : Shape := ⟨3, ![1, 1024, 512]⟩
abbrev S1x512x512 : Shape := ⟨3, ![1, 512, 512]⟩
abbrev S512x512 : Shape := ⟨2, ![512, 512]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .bf16⟩
  | .local _ .vmem, ⟨0, _⟩ => ⟨S2048x2048, .bf16⟩
  | .local _ .vmem, ⟨1, _⟩ => ⟨S1024x8192, .bf16⟩
  | .local _ .vmem, ⟨2, _⟩ => ⟨S2x1024x1024, .f32⟩
  | .local _ .vmem, ⟨3, _⟩ => ⟨S2x512x2048, .f32⟩
  | .local _ .vmem, ⟨4, _⟩ => ⟨S2x1024x512, .f32⟩
  | .local _ .vmem, ⟨5, _⟩ => ⟨S2x512x512, .bf16⟩
  | .local _ .vmem, ⟨6, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c0_i32_22 : BitVec 32 := 0#32
  ![v8.toNat, 0]
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c1024_i32_33 : BitVec 32 := 1024#32
  ![v8.toNat, 1024]
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c2048_i32 : BitVec 32 := 2048#32
  ![v8.toNat, 2048]
def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c3072_i32 : BitVec 32 := 3072#32
  ![v8.toNat, 3072]
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c4096_i32 : BitVec 32 := 4096#32
  ![v8.toNat, 4096]
def k0_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c5120_i32 : BitVec 32 := 5120#32
  ![v8.toNat, 5120]
def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c6144_i32 : BitVec 32 := 6144#32
  ![v8.toNat, 6144]
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c7168_i32 : BitVec 32 := 7168#32
  ![v8.toNat, 7168]
def k0_off9 (d0 : Dev nD) : Fin 3 → Nat :=
  let c0_220 : Index := 0#32
  let c1_i32_11 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_11 v5
  let c512_i32_12 : BitVec 32 := 512#32
  let v20 : BitVec 32 := Scalar.muli v19 c512_i32_12
  let v242 : Index := Scalar.indexCast v20
  let c0_221 : Index := 0#32
  ![0, v242.toNat, 0]
def k0_dev3 (d0 : Dev nD) : Nat :=
  let c0_i32_232 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_231 : BitVec 32 := 2#32
  let v249 : BitVec 32 := Scalar.muli v2 c2_i32_231
  let v250 : BitVec 32 := Scalar.addi c0_i32_232 v249
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_233 : BitVec 32 := 1#32
  let v251 : BitVec 32 := Scalar.muli v7 c1_i32_233
  let v252 : BitVec 32 := Scalar.addi v250 v251
  v252.toNat
def k0_off10 (d0 : Dev nD) : Fin 3 → Nat :=
  let c1_331 : Index := 1#32
  let c1_i32_11 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_11 v5
  let c512_i32_12 : BitVec 32 := 512#32
  let v20 : BitVec 32 := Scalar.muli v19 c512_i32_12
  let v341 : Index := Scalar.indexCast v20
  let c0_332 : Index := 0#32
  ![1, v341.toNat, 0]
def k0_dev4 (d0 : Dev nD) : Nat :=
  let c0_i32_342 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_341 : BitVec 32 := 2#32
  let v348 : BitVec 32 := Scalar.muli v2 c2_i32_341
  let v349 : BitVec 32 := Scalar.addi c0_i32_342 v348
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_343 : BitVec 32 := 1#32
  let v350 : BitVec 32 := Scalar.muli v7 c1_i32_343
  let v351 : BitVec 32 := Scalar.addi v349 v350
  v351.toNat
def k0_off11 (d0 : Dev nD) : Fin 3 → Nat :=
  let c0_370 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let v373 : Index := Scalar.indexCast v18
  let c0_371 : Index := 0#32
  ![0, v373.toNat, 0]
def k0_off12 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let v380 : Index := Scalar.indexCast v23
  let c0_374 : Index := 0#32
  ![v380.toNat, 0]
def k0_off13 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let c0_i32_382 : BitVec 32 := 0#32
  ![v23.toNat, 0]
def k0_dev5 (d0 : Dev nD) : Nat :=
  let c0_i32_380 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_379 : BitVec 32 := 2#32
  let v382 : BitVec 32 := Scalar.muli v6 c2_i32_379
  let v383 : BitVec 32 := Scalar.addi c0_i32_380 v382
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v384 : BitVec 32 := Scalar.muli v5 c1_i32_381
  let v385 : BitVec 32 := Scalar.addi v383 v384
  v385.toNat
def k0_dev6 (d0 : Dev nD) : Nat :=
  let c0_i32_389 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_388 : BitVec 32 := 2#32
  let v392 : BitVec 32 := Scalar.muli v2 c2_i32_388
  let v393 : BitVec 32 := Scalar.addi c0_i32_389 v392
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_390 : BitVec 32 := 1#32
  let v394 : BitVec 32 := Scalar.muli v7 c1_i32_390
  let v395 : BitVec 32 := Scalar.addi v393 v394
  v395.toNat
def k0_dev7 (d0 : Dev nD) : Nat :=
  let c0_i32_496 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_495 : BitVec 32 := 2#32
  let v490 : BitVec 32 := Scalar.muli v2 c2_i32_495
  let v491 : BitVec 32 := Scalar.addi c0_i32_496 v490
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_497 : BitVec 32 := 1#32
  let v492 : BitVec 32 := Scalar.muli v7 c1_i32_497
  let v493 : BitVec 32 := Scalar.addi v491 v492
  v493.toNat
def k0_off14 (d0 : Dev nD) : Fin 3 → Nat :=
  let c1_524 : Index := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let v515 : Index := Scalar.indexCast v18
  let c0_525 : Index := 0#32
  ![1, v515.toNat, 0]
def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let v522 : Index := Scalar.indexCast v23
  let c512_527 : Index := 512#32
  ![v522.toNat, 512]
def k0_off16 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let c512_i32_535 : BitVec 32 := 512#32
  ![v23.toNat, 512]
def k0_dev8 (d0 : Dev nD) : Nat :=
  let c0_i32_533 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_532 : BitVec 32 := 2#32
  let v524 : BitVec 32 := Scalar.muli v6 c2_i32_532
  let v525 : BitVec 32 := Scalar.addi c0_i32_533 v524
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_534 : BitVec 32 := 1#32
  let v526 : BitVec 32 := Scalar.muli v5 c1_i32_534
  let v527 : BitVec 32 := Scalar.addi v525 v526
  v527.toNat
def k0_dev9 (d0 : Dev nD) : Nat :=
  let c0_i32_542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_541 : BitVec 32 := 2#32
  let v534 : BitVec 32 := Scalar.muli v2 c2_i32_541
  let v535 : BitVec 32 := Scalar.addi c0_i32_542 v534
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_543 : BitVec 32 := 1#32
  let v536 : BitVec 32 := Scalar.muli v7 c1_i32_543
  let v537 : BitVec 32 := Scalar.addi v535 v536
  v537.toNat
def k0_off17 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_15 : BitVec 32 := 1024#32
  let v24 : BitVec 32 := Scalar.muli v2 c1024_i32_15
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.subi c1_i32_16 v5
  let c512_i32_17 : BitVec 32 := 512#32
  let v26 : BitVec 32 := Scalar.muli v25 c512_i32_17
  let v27 : BitVec 32 := Scalar.addi v24 v26
  let c0_i32_562 : BitVec 32 := 0#32
  ![v27.toNat, 0]
def k0_dev10 (d0 : Dev nD) : Nat :=
  let c0_i32_560 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_559 : BitVec 32 := 2#32
  let v552 : BitVec 32 := Scalar.muli v6 c2_i32_559
  let v553 : BitVec 32 := Scalar.addi c0_i32_560 v552
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_561 : BitVec 32 := 1#32
  let v554 : BitVec 32 := Scalar.muli v5 c1_i32_561
  let v555 : BitVec 32 := Scalar.addi v553 v554
  v555.toNat
def k0_dev11 (d0 : Dev nD) : Nat :=
  let c0_i32_662 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_661 : BitVec 32 := 2#32
  let v645 : BitVec 32 := Scalar.muli v2 c2_i32_661
  let v646 : BitVec 32 := Scalar.addi c0_i32_662 v645
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_663 : BitVec 32 := 1#32
  let v647 : BitVec 32 := Scalar.muli v7 c1_i32_663
  let v648 : BitVec 32 := Scalar.addi v646 v647
  v648.toNat
def k0_off18 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let v677 : Index := Scalar.indexCast v23
  let c1024_694 : Index := 1024#32
  ![v677.toNat, 1024]
def k0_off19 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let c1024_i32_702 : BitVec 32 := 1024#32
  ![v23.toNat, 1024]
def k0_dev12 (d0 : Dev nD) : Nat :=
  let c0_i32_700 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_699 : BitVec 32 := 2#32
  let v679 : BitVec 32 := Scalar.muli v6 c2_i32_699
  let v680 : BitVec 32 := Scalar.addi c0_i32_700 v679
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_701 : BitVec 32 := 1#32
  let v681 : BitVec 32 := Scalar.muli v5 c1_i32_701
  let v682 : BitVec 32 := Scalar.addi v680 v681
  v682.toNat
def k0_dev13 (d0 : Dev nD) : Nat :=
  let c0_i32_709 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_708 : BitVec 32 := 2#32
  let v689 : BitVec 32 := Scalar.muli v2 c2_i32_708
  let v690 : BitVec 32 := Scalar.addi c0_i32_709 v689
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_710 : BitVec 32 := 1#32
  let v691 : BitVec 32 := Scalar.muli v7 c1_i32_710
  let v692 : BitVec 32 := Scalar.addi v690 v691
  v692.toNat
def k0_off20 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_15 : BitVec 32 := 1024#32
  let v24 : BitVec 32 := Scalar.muli v2 c1024_i32_15
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.subi c1_i32_16 v5
  let c512_i32_17 : BitVec 32 := 512#32
  let v26 : BitVec 32 := Scalar.muli v25 c512_i32_17
  let v27 : BitVec 32 := Scalar.addi v24 v26
  let c512_i32_729 : BitVec 32 := 512#32
  ![v27.toNat, 512]
def k0_dev14 (d0 : Dev nD) : Nat :=
  let c0_i32_727 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_726 : BitVec 32 := 2#32
  let v707 : BitVec 32 := Scalar.muli v6 c2_i32_726
  let v708 : BitVec 32 := Scalar.addi c0_i32_727 v707
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_728 : BitVec 32 := 1#32
  let v709 : BitVec 32 := Scalar.muli v5 c1_i32_728
  let v710 : BitVec 32 := Scalar.addi v708 v709
  v710.toNat
def k0_off21 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let v738 : Index := Scalar.indexCast v23
  let c1536_756 : Index := 1536#32
  ![v738.toNat, 1536]
def k0_off22 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v21 : BitVec 32 := Scalar.muli v2 c1024_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v22 : BitVec 32 := Scalar.muli v5 c512_i32_14
  let v23 : BitVec 32 := Scalar.addi v21 v22
  let c1536_i32_764 : BitVec 32 := 1536#32
  ![v23.toNat, 1536]
def k0_dev15 (d0 : Dev nD) : Nat :=
  let c0_i32_762 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_761 : BitVec 32 := 2#32
  let v740 : BitVec 32 := Scalar.muli v6 c2_i32_761
  let v741 : BitVec 32 := Scalar.addi c0_i32_762 v740
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_763 : BitVec 32 := 1#32
  let v742 : BitVec 32 := Scalar.muli v5 c1_i32_763
  let v743 : BitVec 32 := Scalar.addi v741 v742
  v743.toNat
def k0_dev16 (d0 : Dev nD) : Nat :=
  let c0_i32_771 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_770 : BitVec 32 := 2#32
  let v750 : BitVec 32 := Scalar.muli v2 c2_i32_770
  let v751 : BitVec 32 := Scalar.addi c0_i32_771 v750
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_772 : BitVec 32 := 1#32
  let v752 : BitVec 32 := Scalar.muli v7 c1_i32_772
  let v753 : BitVec 32 := Scalar.addi v751 v752
  v753.toNat
def k0_dev17 (d0 : Dev nD) : Nat :=
  let c0_i32_782 : BitVec 32 := 0#32
  let c1_i32_775 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v760 : BitVec 32 := Scalar.subi c1_i32_775 v2
  let c2_i32_781 : BitVec 32 := 2#32
  let v762 : BitVec 32 := Scalar.muli v760 c2_i32_781
  let v763 : BitVec 32 := Scalar.addi c0_i32_782 v762
  let c1_i32_776 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v761 : BitVec 32 := Scalar.subi c1_i32_776 v5
  let c1_i32_783 : BitVec 32 := 1#32
  let v764 : BitVec 32 := Scalar.muli v761 c1_i32_783
  let v765 : BitVec 32 := Scalar.addi v763 v764
  v765.toNat
def k0_off23 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_15 : BitVec 32 := 1024#32
  let v24 : BitVec 32 := Scalar.muli v2 c1024_i32_15
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.subi c1_i32_16 v5
  let c512_i32_17 : BitVec 32 := 512#32
  let v26 : BitVec 32 := Scalar.muli v25 c512_i32_17
  let v27 : BitVec 32 := Scalar.addi v24 v26
  let c1024_i32_802 : BitVec 32 := 1024#32
  ![v27.toNat, 1024]
def k0_dev18 (d0 : Dev nD) : Nat :=
  let c0_i32_800 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_799 : BitVec 32 := 2#32
  let v780 : BitVec 32 := Scalar.muli v6 c2_i32_799
  let v781 : BitVec 32 := Scalar.addi c0_i32_800 v780
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_801 : BitVec 32 := 1#32
  let v782 : BitVec 32 := Scalar.muli v5 c1_i32_801
  let v783 : BitVec 32 := Scalar.addi v781 v782
  v783.toNat
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | .hbm, ⟨4, _⟩ => ⟨S2048x2048, .bf16⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Views.lean ====
/-
  The kernel's buffers cut into the pieces its transfers move, the four devices' places in the mesh, and the values
  each piece holds in the course of the run, as functions of the two argument arrays.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Transfers
public import Idealize.ShloMosaic.Lib.Tactic
public import Idealize.ShloMosaic.Lib.ValueIdx

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## The mesh: device `2 x + y` stands at row `x`, column `y` -/

/-- The device in the other row, same column. -/
def xn (c : Dev nD) : Dev nD := ⟨((c.val % 2) + 2) - 2 * (c.val / 2), by revert c; decide⟩
/-- The device in the same row, other column. -/
def yn (c : Dev nD) : Dev nD := ⟨(2 * (c.val / 2) + 1) - (c.val % 2), by revert c; decide⟩
/-- The device in the other row and the other column. -/
def dg (c : Dev nD) : Dev nD := ⟨3 - (2 * (c.val / 2) + (c.val % 2)), by revert c; decide⟩

theorem xn_xn (c : Dev nD) : xn (xn c) = c := by revert c; decide
theorem yn_yn (c : Dev nD) : yn (yn c) = c := by revert c; decide
theorem dg_dg (c : Dev nD) : dg (dg c) = c := by revert c; decide
theorem xn_yn (c : Dev nD) : xn (yn c) = dg c := by revert c; decide
theorem yn_xn (c : Dev nD) : yn (xn c) = dg c := by revert c; decide
theorem dg_yn (c : Dev nD) : dg (yn c) = xn c := by revert c; decide
theorem dg_xn (c : Dev nD) : dg (xn c) = yn c := by revert c; decide
theorem yn_dg (c : Dev nD) : yn (dg c) = xn c := by revert c; decide

/-! ## The pieces of the buffers -/

abbrev oA : Memref sig .tc .vmem S2048x2048 .bf16 := Memref.whole cc0_stg0_0
abbrev aA : Memref sig .tc .vmem S1024x8192 .bf16 := Memref.whole cc0_scratch0
abbrev asA : Memref sig .tc .vmem S2x1024x1024 .f32 := Memref.whole cc0_scratch1
abbrev wsA : Memref sig .tc .vmem S2x512x2048 .f32 := Memref.whole cc0_scratch2
abbrev acA : Memref sig .tc .vmem S2x1024x512 .f32 := Memref.whole cc0_scratch3
abbrev rsA : Memref sig .tc .vmem S2x512x512 .bf16 := Memref.whole cc0_scratch4
abbrev rvA : Memref sig .tc .vmem S512x2048 .bf16 := Memref.whole cc0_scratch5
abbrev hA : Memref sig .tc .hbm S2048x8192 .f32 := Memref.whole main_arg0
abbrev hW : Memref sig .tc .hbm S2048x8192 .f32 := Memref.whole main_arg1

/-- Rows `512 q …`, columns `512 j …` of the result. -/
def oR (q j : Fin 4) : Rect S2048x2048 :=
  Rect.unit (s := S2048x2048) ![512 * q.val, 512 * j.val] S512x512.size (by revert q j; decide)
/-- Slot `s` of the staged pieces of the first argument, -/
def asR (s : Fin 2) : Rect S2x1024x1024 := Rect.unit (s := S2x1024x1024) ![s.val, 0, 0] S1x1024x1024.size (by revert s; decide)
/-- of the second argument, -/
def wsR (s : Fin 2) : Rect S2x512x2048 := Rect.unit (s := S2x512x2048) ![s.val, 0, 0] S1x512x2048.size (by revert s; decide)
/-- of the accumulators, -/
def acR (s : Fin 2) : Rect S2x1024x512 := Rect.unit (s := S2x1024x512) ![s.val, 0, 0] S1x1024x512.size (by revert s; decide)
/-- of the halves sent to the neighbour in the row. -/
def rsR (s : Fin 2) : Rect S2x512x512 := Rect.unit (s := S2x512x512) ![s.val, 0, 0] S1x512x512.size (by revert s; decide)
/-- Where the neighbour's half of column block `j` lands. -/
def rvR (j : Fin 4) : Rect S512x2048 := Rect.unit (s := S512x2048) ![0, 512 * j.val] S512x512.size (by revert j; decide)
/-- Columns `1024 g …` of the rounded rows of the first argument. -/
def abR (g : Fin 8) : Rect S1024x8192 := Rect.unit (s := S1024x8192) ![0, 1024 * g.val] S1024x1024.size (by revert g; decide)
/-- Columns `2048 k …` of them. -/
def akR (k : Fin 4) : Rect S1024x8192 := Rect.unit (s := S1024x8192) ![0, 2048 * k.val] S1024x2048.size (by revert k; decide)
/-- Rows `512 h …` of accumulator slot `s`. -/
def ahR (s h : Fin 2) : Rect S2x1024x512 := Rect.unit (s := S2x1024x512) ![s.val, 512 * h.val, 0] S1x512x512.size (by revert s h; decide)
/-- The piece of the first argument device `c` fetches `g`-th: its row half, columns `1024 g …`. -/
def haR (c : Dev nD) (g : Fin 8) : Rect S2048x8192 :=
  Rect.unit (s := S2048x8192) ![1024 * (c.val / 2), 1024 * g.val] S1024x1024.size (by revert c g; decide)
/-- The piece of the second argument fetched `t`-th: rows `512 (t / 4) …`, columns `2048 (t % 4) …`. -/
def hwR (t : Fin 16) : Rect S2048x8192 :=
  Rect.unit (s := S2048x8192) ![512 * (t.val / 4), 2048 * (t.val % 4)] S512x2048.size (by revert t; decide)

abbrev oM (q j : Fin 4) : Memref sig .tc .vmem S512x512 .bf16 := oA.slice (oR q j) (fun _ => rfl)
abbrev asM (s : Fin 2) : Memref sig .tc .vmem S1x1024x1024 .f32 := asA.slice (asR s) (fun _ => rfl)
abbrev wsM (s : Fin 2) : Memref sig .tc .vmem S1x512x2048 .f32 := wsA.slice (wsR s) (fun _ => rfl)
abbrev acM (s : Fin 2) : Memref sig .tc .vmem S1x1024x512 .f32 := acA.slice (acR s) (fun _ => rfl)
abbrev rsM (s : Fin 2) : Memref sig .tc .vmem S1x512x512 .bf16 := rsA.slice (rsR s) (fun _ => rfl)
abbrev rvM (j : Fin 4) : Memref sig .tc .vmem S512x512 .bf16 := rvA.slice (rvR j) (fun _ => rfl)

/-! ## The values -/

/-- A device's row and column, and the other column. -/
def half (c : Dev nD) : Fin 2 := ⟨c.val % 2, Nat.mod_lt _ (by decide)⟩
def otherHalf (c : Dev nD) : Fin 2 := ⟨1 - c.val % 2, by omega⟩

/-- A launch memory: what each buffer of each device holds. -/
abbrev Mem (F : FTy → Type) : Type := (ℓ : Loc nD τ sig) → Buf (Elt F) ℓ

variable (m : Mem F)

/-- The two argument arrays of device `c`. -/
def argA (c : Dev nD) : S2048x8192.Idx → Elt F .f32 := m ((c : Thread nD τ).loc main_arg0)
def argW (c : Dev nD) : S2048x8192.Idx → Elt F .f32 := m ((c : Thread nD τ).loc main_arg1)

/-- The `g`-th fetched piece of the first argument, as a slot holds it. -/
def aT (c : Dev nD) (g : Fin 8) : S1x1024x1024.Idx → Elt F .f32 := fun z =>
  argA m c ((haR c g).emb ((Shape.reshapeEquiv squeezes_S1x1024x1024_S1024x1024.numel_eq).symm z))
/-- The `t`-th fetched piece of the second argument, as a slot holds it. -/
def wT (c : Dev nD) (t : Fin 16) : S1x512x2048.Idx → Elt F .f32 := fun z =>
  argW m c ((hwR t).emb ((Shape.reshapeEquiv squeezes_S1x512x2048_S512x2048.numel_eq).symm z))
/-- Device `c`'s row half of the first argument, rounded: eight fetched pieces side by side. -/
def aF (c : Dev nD) : S1024x8192.Idx → Elt F .bf16 := fun i =>
  k0_pay1 (aT m c ⟨(i 1).val / 1024, by have := idx2_lt1 i; omega⟩) (ix2 (i 0) ⟨(i 1).val % 1024, Nat.mod_lt _ (by decide)⟩)
/-- Its columns `2048 k …`. -/
def aK (c : Dev nD) (k : Fin 4) : S1024x2048.Idx → Elt F .bf16 := fun i => aF m c ((akR k).emb i)
/-- The product of column piece `k` with the fetched piece `t`. -/
def prod (c : Dev nD) (k : Fin 4) (t : Fin 16) : S1024x512.Idx → Elt F .f32 := k0_pay3 (aK m c k) (wT m c t)
/-- The accumulator of column block `j` after its first product, -/
def acc0 (c : Dev nD) (j : Fin 4) : S1x1024x512.Idx → Elt F .f32 := k0_pay4 (prod m c 0 ⟨4 * j.val, by omega⟩)
/-- its second, -/
def acc1 (c : Dev nD) (j : Fin 4) : S1x1024x512.Idx → Elt F .f32 := k0_pay11 (aK m c 1) (wT m c ⟨4 * j.val + 1, by omega⟩) (acc0 m c j)
/-- its third, -/
def acc2 (c : Dev nD) (j : Fin 4) : S1x1024x512.Idx → Elt F .f32 := k0_pay11 (aK m c 2) (wT m c ⟨4 * j.val + 2, by omega⟩) (acc1 m c j)
/-- its last. -/
def acc3 (c : Dev nD) (j : Fin 4) : S1x1024x512.Idx → Elt F .f32 := k0_pay11 (aK m c 3) (wT m c ⟨4 * j.val + 3, by omega⟩) (acc2 m c j)
/-- Where row `r` of half `h` of an accumulator lies in it. -/
def halfAt (h : Fin 2) (i : S1x512x512.Idx) : S1x1024x512.Idx :=
  ix3 (i 0) ⟨512 * h.val + (i 1).val, by have h1 : (i 1).val < 512 := (i 1).isLt; have := h.isLt; omega⟩ (i 2)
/-- Half `h` of the last accumulator of column block `j`. -/
def accH (c : Dev nD) (j : Fin 4) (h : Fin 2) : S1x512x512.Idx → Elt F .f32 := fun i => acc3 m c j (halfAt h i)
/-- The rounded half device `c` sends to its neighbour in the row, as the slot holds it, -/
def rsS (c : Dev nD) (j : Fin 4) : S1x512x512.Idx → Elt F .bf16 := k0_pay15 (accH m c j (otherHalf c))
/-- and as it lands. -/
def rsV (c : Dev nD) (j : Fin 4) : S512x512.Idx → Elt F .bf16 := fun y =>
  rsS m c j (Shape.reshapeEquiv squeezes_S1x512x512_S512x512.numel_eq y)
/-- The piece of the result device `c` finishes: its own half and the neighbour's. -/
def sumV (c : Dev nD) (j : Fin 4) : S512x512.Idx → Elt F .bf16 := k0_pay22 (accH m c j (half c)) (rsV m (yn c) j)

end Cert.Fused

end
-- ==== Proof.Schedule.lean ====
/-
  The protocol: which semaphore cells the devices share, what each cell's signals and transfers hand to its owner, what
  every device owes, in which order, and the levels that make every wait safe.
-/
module

public import proofs.«01_k».proof.Proof.Views

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds, the protocol's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor, -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- the counters: its right half. -/
def EC : UEmb Counters (MT nD τ sig Unit (Elt F) ℕ UU ℕ) :=
  (CountersIn.emb (U := UU)).trans (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

/-! ## The cells -/

/-- The barrier semaphore of the runtime. -/
abbrev barS : Sem sig := (SemArray.scalar (sig.barrier 0 rfl) : Sems sig S_).sem

/-- A device's shared cells: the barrier's (`none`), a transfer's source side (`some (false, s, j)`) and its target side
    (`some (true, s, j)`). Stage `s = 0` carries halves of sums to the neighbour in the row, `1` and `2` finished pieces to
    the neighbours in the column and in the row, `3` finished pieces to the device across; `j` is the column block. -/
abbrev Cell : Type := Option (Bool × Fin 4 × Fin 4)

abbrev snd (s j : Fin 4) : Cell := some (false, s, j)
abbrev rcv (s j : Fin 4) : Cell := some (true, s, j)

def csem : Cell → SemLoc sig
  | none => .reg barS
  | some (b, s, j) => .dma ⟨5 + 16 * b.toNat + 4 * s.val + j.val, by revert b s j; decide⟩

/-- Which shared cell a semaphore is, if one. -/
def cellIx : SemLoc sig → Option Cell
  | .reg s => if s = barS then some none else none
  | .dma q => if 21 ≤ q.val then some (rcv ⟨(q.val - 21) / 4 % 4, Nat.mod_lt _ (by decide)⟩ ⟨(q.val - 21) % 4, Nat.mod_lt _ (by decide)⟩)
      else if 5 ≤ q.val then some (snd ⟨(q.val - 5) / 4 % 4, Nat.mod_lt _ (by decide)⟩ ⟨(q.val - 5) % 4, Nat.mod_lt _ (by decide)⟩) else none

theorem cellIx_csem (k : Cell) : cellIx (csem k) = some k := by revert k; decide

abbrev kcell (ck : Dev nD × Cell) : GSem nD τ sig := ((ck.1 : Thread nD τ), csem ck.2)

theorem csem_inj {k k' : Cell} (h : csem k = csem k') : k = k' :=
  Option.some.inj (by rw [← cellIx_csem k, ← cellIx_csem k', h])

/-- What one transfer between devices adds to a counter. -/
abbrev NB : ℕ := (oM 0 0).view.dmaCredit
theorem NB_pos : 0 < NB := View.dmaCredit_pos _ (by decide)

/-- What a shared cell's signal adds: one, or a transfer's credit. -/
def amt : Cell → ℕ
  | none => 1
  | some _ => NB

/-! ## What the cells hand over -/

/-- The whole of a piece of a device's buffer, whatever it holds. -/
def anyOf (c : Dev nD) {sp : Space} {sh : Shape} {e : EltTy} (x : Memref sig .tc sp sh e) : sProp 𝕄 :=
  iprop(∃ X, owns (c : Thread nD τ) x fullShare X)
instance anyOf_storable (c : Dev nD) {sp : Space} {sh : Shape} {e : EltTy} (x : Memref sig .tc sp sh e) :
    BI.Storable (upEmb : UEmb _ 𝕄) (anyOf (F := F) c x) := by unfold anyOf; infer_instance

/-- Four of a kind. -/
def four (P : Fin 4 → sProp 𝕄) : sProp 𝕄 := iprop(P 0 ∗ P 1 ∗ P 2 ∗ P 3)
instance four_storable (P : Fin 4 → sProp 𝕄) [∀ j, BI.Storable (upEmb : UEmb _ 𝕄) (P j)] :
    BI.Storable (upEmb : UEmb _ 𝕄) (four P) := by unfold four; infer_instance

/-- The slot of column block `j`: the two slots take turns. -/
def slot (j : Fin 4) : Fin 2 := ⟨j.val % 2, Nat.mod_lt _ (by decide)⟩

/-- The share of a finished piece its transfer to the neighbour in the row reads: half of what the transfer to the column
    leaves where a third transfer reads the piece (`j = 3`), all of it otherwise. -/
def qY (j : Fin 4) : PosShare TreeShare := if j = 3 then fullShare.right.left else fullShare.right

variable (m : Mem F)

/-- Piece `j` of the rows device `q` finishes, on device `c`. -/
abbrev outP (c q j : Fin 4) (sh : PosShare TreeShare) : sProp 𝕄 := owns ((c : Dev nD) : Thread nD τ) (oM q j) sh (sumV m q j)

/-- The neighbour in the column hands over where its copies of this row's pieces go, -/
def barX (c : Dev nD) : sProp 𝕄 :=
  iprop(four (fun j => anyOf (F := F) (xn c) (oM c j)) ∗ four (fun j => anyOf (F := F) (xn c) (oM (yn c) j)))
/-- the neighbour in the row where its copies of this device's pieces and halves go. -/
def barY (c : Dev nD) : sProp 𝕄 :=
  iprop(four (fun j => anyOf (F := F) (yn c) (oM c j)) ∗ four (fun j => anyOf (F := F) (yn c) (rvM j)))

/-- A transfer's source comes back when it has been read. -/
def sndPay (c : Dev nD) (s j : Fin 4) : sProp 𝕄 :=
  if s = 0 then anyOf (F := F) c (rsM (slot j))
  else if s = 1 then outP m c c j fullShare.left
  else if s = 2 then outP m c c j (qY j)
  else if j = 3 then outP m c c j fullShare.right.right
  else outP m c (yn c) j fullShare

/-- A transfer's target is handed over written; with the first half comes the place, on the device across, of this
    device's last piece. -/
def rcvPay (c : Dev nD) (s j : Fin 4) : sProp 𝕄 :=
  if s = 0 then iprop(owns (c : Thread nD τ) (rvM j) fullShare (rsV m (yn c) j) ∗ if j = 0 then anyOf (F := F) (dg c) (oM c 3) else iprop(emp))
  else if s = 1 then outP m c (xn c) j fullShare
  else if s = 2 then outP m c (yn c) j fullShare
  else outP m c (dg c) j fullShare

def pay (c : Dev nD) : Cell → Bool → sProp 𝕄
  | none, false => barX c
  | none, true => barY c
  | some (false, s, j), _ => sndPay m c s j
  | some (true, s, j), _ => rcvPay m c s j

instance pay_storable (c : Dev nD) (k : Cell) (d : Bool) : BI.Storable (upEmb : UEmb _ 𝕄) (pay m c k d) := by
  unfold pay barX barY sndPay rcvPay
  (repeat' split) <;> infer_instance

/-- One round: a barrier cell's two duties (paid by the neighbour in the column, `false`, and in the row, `true`), one unit
    each; every other shared cell's one duty, a transfer's credit. -/
def Rd : Rounds.Schedule (GSem nD τ sig) Bool 𝕄 where
  duties g r := if r = 0 ∧ g.1.2 = .tc then (match cellIx g.2 with | none => ∅ | some none => Finset.univ | some (some _) => {false}) else ∅
  unitless _ := False
  amount g _ _ := if g.2 = .reg barS then 1 else NB
  payload g _ d := match cellIx g.2 with | none => iprop(emp) | some k => pay m g.1.1 k d
  amount_pos g _ _ _ := by
    by_cases h : g.2 = .reg barS
    · rw [if_pos h]; exact Nat.one_pos
    · rw [if_neg h]; exact NB_pos

instance Rd_payload_storable (g : GSem nD τ sig) (r : ℕ) (d : Bool) :
    BI.Storable (upEmb : UEmb _ 𝕄) ((Rd m).payload g r d) := by
  unfold Rd; dsimp only; split <;> infer_instance

section Sched
variable (c : Dev nD)

omit [FloatOps F] in
theorem csem_ne_bar (x : Bool × Fin 4 × Fin 4) : csem (some x) ≠ .reg barS := fun h => by
  have := csem_inj (k := some x) (k' := none) h; cases this

theorem duties_bar : (Rd m).duties (kcell (c, none)) 0 = Finset.univ := by
  dsimp only [Rd]; rw [if_pos ⟨rfl, rfl⟩, cellIx_csem]
theorem duties_some (x : Bool × Fin 4 × Fin 4) : (Rd m).duties (kcell (c, some x)) 0 = {false} := by
  dsimp only [Rd]; rw [if_pos ⟨rfl, rfl⟩, cellIx_csem]
theorem duties_later (g : GSem nD τ sig) : ∀ r, 1 ≤ r → (Rd m).duties g r = ∅ :=
  fun r hr => by dsimp only [Rd]; exact if_neg fun h => by omega
theorem amount_cell (k : Cell) (d : Bool) : (Rd m).amount (kcell (c, k)) 0 d = amt k := by
  dsimp only [Rd]
  cases k with
  | none => exact if_pos rfl
  | some x => exact if_neg (csem_ne_bar x)
theorem payload_cell (k : Cell) (d : Bool) : (Rd m).payload (kcell (c, k)) 0 d = pay m c k d := by
  dsimp only [Rd]; rw [cellIx_csem]
theorem expect_bar : (Rd m).expect (kcell (c, none)) 0 = 2 := by
  unfold Schedule.expect Schedule.amountOf
  rw [duties_bar, Finset.sum_congr rfl fun d _ => amount_cell m c none d, Finset.sum_const, Finset.card_univ, Fintype.card_bool]; rfl
theorem expect_some (x : Bool × Fin 4 × Fin 4) : (Rd m).expect (kcell (c, some x)) 0 = NB := by
  unfold Schedule.expect Schedule.amountOf; rw [duties_some, Finset.sum_singleton, amount_cell]; rfl

/-- A barrier round hands over both neighbours' pieces, -/
theorem rest_bar : bigSep ((Rd m).duties (kcell (c, none)) 0 \ ∅) (fun d => (Rd m).payload (kcell (c, none)) 0 d) = iprop(barX c ∗ barY c) := by
  rw [Finset.sdiff_empty, duties_bar, bigSep_univ_eq_bigSepL [false, true] (by decide) (by decide), bigSepL_cons_cons, bigSepL_singleton,
    payload_cell, payload_cell]
  rfl
/-- any other round its one payload. -/
theorem rest_some (x : Bool × Fin 4 × Fin 4) :
    bigSep ((Rd m).duties (kcell (c, some x)) 0 \ ∅) (fun d => (Rd m).payload (kcell (c, some x)) 0 d) = pay m c (some x) false := by
  rw [Finset.sdiff_empty, duties_some, bigSep_singleton, payload_cell]

end Sched

/-! ## What a device owes, in the order it pays -/

/-- The device a transfer of stage `s` goes to. -/
def tgt (c : Dev nD) (s j : Fin 4) : Dev nD := if s = 0 ∨ s = 2 then yn c else if s = 3 ∧ j = 3 then dg c else xn c

/-- The cells device `c` signals or transfers to, first to last. -/
def items (c : Dev nD) : List (Dev nD × Cell) :=
  [(xn c, none), (yn c, none), (yn c, rcv 0 0), (yn c, rcv 0 1), (xn c, rcv 1 0), (yn c, rcv 2 0), (yn c, rcv 0 2), (xn c, rcv 1 1), (yn c, rcv 2 1),
    (xn c, rcv 3 0), (yn c, rcv 0 3), (xn c, rcv 1 2), (yn c, rcv 2 2), (xn c, rcv 3 1), (xn c, rcv 1 3), (yn c, rcv 2 3), (dg c, rcv 3 3), (xn c, rcv 3 2)]

def tally (x : Dev nD × Cell) : CellTallies nD τ sig Unit := tallyAt (kcell x) () (amt x.2)

/-- What device `c` owes after its first `k` payments. -/
def Ow (c : Dev nD) (k : ℕ) : CellTallies nD τ sig Unit := (((items c).drop k).map tally).sum

/-- Paying item `k`. -/
theorem Ow_step (c : Dev nD) (k : ℕ) (h : k < 18) : Ow c k = Ow c (k + 1) + tally ((items c)[k]'h) := by
  unfold Ow
  rw [List.drop_eq_getElem_cons (l := items c) h, List.map_cons, List.sum_cons, add_comm]

theorem Ow_end (c : Dev nD) : Ow c 18 = 0 := rfl

/-! ## Levels -/

def lvl : Cell → ℕ
  | none => 1
  | some (false, _, _) => 0
  | some (true, s, j) => if s = 0 then 4 * j.val + 2 else if s = 3 then 100 else 4 * j.val + 3

def L (g : GSem nD τ sig) : Finset Unit := if g.1.2 = .tc then {()} else ∅
def lv (g : GSem nD τ sig) (_ : Unit) : ℕ := match cellIx g.2 with | none => 0 | some k => lvl k

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × Cell) (u : Unit) : lv (kcell x) u = lvl x.2 := by unfold lv; rw [cellIx_csem]

/-- Where a sum of tallies is positive, some item's cell stands. -/
theorem tally_pos (l : List (Dev nD × Cell)) {g : GSem nD τ sig} {u : Unit} (h : 0 < (l.map tally).sum g u) : ∃ x ∈ l, g = kcell x := by
  induction l with
  | nil => exact absurd h (Nat.lt_irrefl 0)
  | cons x l ih =>
    rw [List.map_cons, List.sum_cons, Pi.add_apply, Finsupp.add_apply] at h
    by_cases hx : g = kcell x
    · exact ⟨x, List.mem_cons_self, hx⟩
    · have h0 : tally x g u = 0 := by
        unfold tally; rw [tallyAt_apply, if_neg fun h' => hx h'.1]
      rw [h0, Nat.zero_add] at h
      obtain ⟨y, hy, e⟩ := ih h
      exact ⟨y, List.mem_cons_of_mem _ hy, e⟩

/-- The highest level a wait may stand at when `k` payments are made: below every cell still owed. -/
def room (k n : ℕ) : Prop := ∀ c : Dev nD, ∀ x ∈ (items c).drop k, n < lvl x.2
instance (k n : ℕ) : Decidable (room k n) := by unfold room; infer_instance

/-- A wait at a level below everything still owed is safe. -/
theorem mayWait (c : Dev nD) (sm : SemLoc sig) (k n : ℕ) (hs : lv ((c : Thread nD τ), sm) () ≤ n) (hn : room k n) :
    (levAts L lv : sProp 𝕄) ⊢ MayWait (c : Thread nD τ) sm () (Ow c k) := by
  refine MayOwe.of_cut (L := L) (lev := lv) n (fun p hp => by rw [Finset.mem_singleton.mp hp, L_tc]; exact Finset.mem_singleton_self _)
    (fun g u hg => ?_) (fun p hp => by rw [Finset.mem_singleton.mp hp]; exact hs) (fun g u hg => ?_)
  · obtain ⟨x, -, rfl⟩ := tally_pos _ hg
    rw [L_tc]; exact Finset.mem_singleton_self _
  · obtain ⟨x, hx, rfl⟩ := tally_pos _ hg
    rw [lv_kcell]; exact hn c x hx

end Cert.Fused

end
-- ==== Proof.Steps.lean ====
/-
  One rule per kind of effect the kernel's body performs, each in terms of the pieces and the cells of the protocol.
-/
module

public import proofs.«01_k».proof.Proof.Schedule

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What is left of a program of device `c` establishes `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Mem
variable {cs : CoreSpace} {S : Shape} {e : EltTy} {α : Type} (c : Dev nD) {mm : Memref sig .tc cs S e}
  {Q : α → sProp (MT nD τ sig Unit (Elt F) ℕ UU ℕ)}

/-- A load of a whole piece. -/
theorem step_load {off off' size : Fin S.rank → ℕ} {p : ∀ a, off a + size a ≤ S.size a} {p' : ∀ a, off' a + size a ≤ S.size a} (h : off' = off)
    {hr : ∀ a, (Rect.unit (s := S) off size p).stride a = 1}
    {hl : mm.view.LoadsAt (Rect.unit (s := S) off' size p').toLoadRect} {q : PosShare TreeShare}
    {X : (Rect.unit (s := S) off size p).shape.Idx → Elt F e}
    {k : ((Rect.unit (s := S) off' size p').shape.Idx → Elt F e) → Prog (TpuEff nD τ sig (Elt F) Λ₀ .tc) α} :
    owns (c : Thread nD τ) (mm.slice (Rect.unit (s := S) off size p) hr) q X
      ⊢ iprop((owns (c : Thread nD τ) (mm.slice (Rect.unit (s := S) off size p) hr) q X -∗ runs c (k X) Q)
        -∗ runs c (.op (.load mm (Rect.unit (s := S) off' size p').toLoadRect hl) k) Q) := by
  subst h
  unfold owns
  iintro ⟨%f, %hf, H⟩ Hk
  iapply (wp_load_rect (m := mm) (r := Rect.unit (s := S) off' size p') 𝒱₀ (c : Thread nD τ) none Set.univ (f := f) (subset_refl _)) $$ H
  iintro H
  rw [show (mm.access (Rect.unit (s := S) off' size p')).read (Elt F) f = X from hf]
  iapply Hk
  iexists f; isplitr; · ipureintro; exact hf
  iexact H

/-- A load of part of a piece. -/
theorem step_load_part {r : Rect S} (hr : ∀ a, r.stride a = 1) {r' : Rect S} {hl : mm.view.LoadsAt r'.toLoadRect} (φ : r'.shape.Idx → r.shape.Idx)
    (h : ∀ i, r'.emb i = r.emb (φ i)) {q : PosShare TreeShare} {X : r.shape.Idx → Elt F e}
    {k : (r'.shape.Idx → Elt F e) → Prog (TpuEff nD τ sig (Elt F) Λ₀ .tc) α} :
    owns (c : Thread nD τ) (mm.slice r hr) q X
      ⊢ iprop((owns (c : Thread nD τ) (mm.slice r hr) q X -∗ runs c (k fun i => X (φ i)) Q) -∗ runs c (.op (.load mm r'.toLoadRect hl) k) Q) := by
  unfold owns
  iintro ⟨%f, %hf, H⟩ Hk
  iapply (wp_load_rect (m := mm) (r := r') 𝒱₀ (c : Thread nD τ) none Set.univ (f := f) (S := (mm.slice r hr).view.set) (by
    intro x hx
    rw [View.set_slice, Finset.mem_map] at hx
    obtain ⟨y, hy, rfl⟩ := hx
    obtain ⟨i, rfl⟩ := r'.exists_idx_of_mem hy
    show _ ∈ (mm.view.slice r).set
    rw [View.set_slice]
    refine Finset.mem_map_of_mem _ ?_
    have hi : r'.idx i = r.idx (φ i) := h i
    rw [hi]; exact r.idx_mem _)) $$ H
  iintro H
  rw [show (mm.access r').read (Elt F) f = fun i => X (φ i) from funext fun i => by
    subst hf
    show mm.view.read (Elt F) f (r'.emb i) = mm.view.read (Elt F) f (r.emb (φ i))
    rw [h i]]
  iapply Hk
  iexists f; isplitr; · ipureintro; exact hf
  iexact H

/-- A load of part of a whole buffer's elements. -/
theorem step_load_whole {r' : Rect S} {hl : mm.view.LoadsAt r'.toLoadRect} {q : PosShare TreeShare} {X : S.Idx → Elt F e}
    {k : (r'.shape.Idx → Elt F e) → Prog (TpuEff nD τ sig (Elt F) Λ₀ .tc) α} :
    owns (c : Thread nD τ) mm q X
      ⊢ iprop((owns (c : Thread nD τ) mm q X -∗ runs c (k fun i => X (r'.emb i)) Q) -∗ runs c (.op (.load mm r'.toLoadRect hl) k) Q) := by
  unfold owns
  iintro ⟨%f, %hf, H⟩ Hk
  iapply (wp_load_rect (m := mm) (r := r') 𝒱₀ (c : Thread nD τ) none Set.univ (f := f) (S := mm.view.set) (mm.view.set_slice_subset r')) $$ H
  iintro H
  rw [show (mm.access r').read (Elt F) f = fun i => X (r'.emb i) from hf ▸ rfl]
  iapply Hk
  iexists f; isplitr; · ipureintro; exact hf
  iexact H

/-- A store of a whole piece. -/
theorem step_store {off off' size : Fin S.rank → ℕ} {p : ∀ a, off a + size a ≤ S.size a} {p' : ∀ a, off' a + size a ≤ S.size a} (h : off' = off)
    {hr : ∀ a, (Rect.unit (s := S) off size p).stride a = 1}
    {w : (Rect.unit (s := S) off' size p').shape.Idx → Elt F e} {hx : (mm.access (Rect.unit (s := S) off' size p')).Stores Finset.univ}
    {hm : (Finset.univ : Finset (Rect.unit (s := S) off' size p').shape.Idx) = Finset.univ ∨ ∀ a, (Rect.unit (s := S) off' size p').stride a = 1}
    {X : (Rect.unit (s := S) off size p).shape.Idx → Elt F e} {k : PUnit → Prog (TpuEff nD τ sig (Elt F) Λ₀ .tc) α} :
    owns (c : Thread nD τ) (mm.slice (Rect.unit (s := S) off size p) hr) fullShare X
      ⊢ iprop((owns (c : Thread nD τ) (mm.slice (Rect.unit (s := S) off size p) hr) fullShare w -∗ runs c (k ⟨⟩) Q)
        -∗ runs c (.op (.store mm (Rect.unit (s := S) off' size p') w Finset.univ hx hm) k) Q) := by
  subst h
  unfold owns
  iintro ⟨%f, %hf, H⟩ Hk
  iapply (wp_store (m := mm) (r := Rect.unit (s := S) off' size p') (w := w) (Mk := Finset.univ) (hx := hx) (hm := hm) (k := k) (Q := Q) 𝒱₀ (c : Thread nD τ) none Set.univ (f := f)
    (S := (mm.slice (Rect.unit (s := S) off' size p) hr).view.set) (subset_refl _)) $$ H
  iintro H
  iapply Hk
  iexists ((mm.access (Rect.unit (s := S) off' size p')).write (Elt F) f w Finset.univ); isplitr
  · ipureintro; exact View.read_write_univ (v := mm.access (Rect.unit (s := S) off' size p')) (Val := Elt F) f w
  iexact H

/-- A store into part of a whole buffer's elements. -/
theorem step_store_part {r' : Rect S} {w : r'.shape.Idx → Elt F e} {hx : (mm.access r').Stores Finset.univ}
    {hm : (Finset.univ : Finset r'.shape.Idx) = Finset.univ ∨ ∀ a, r'.stride a = 1}
    {X : S.Idx → Elt F e} {k : PUnit → Prog (TpuEff nD τ sig (Elt F) Λ₀ .tc) α} :
    owns (c : Thread nD τ) mm fullShare X
      ⊢ iprop((owns (c : Thread nD τ) mm fullShare (r'.overlay X w) -∗ runs c (k ⟨⟩) Q) -∗ runs c (.op (.store mm r' w Finset.univ hx hm) k) Q) := by
  unfold owns
  iintro ⟨%f, %hf, H⟩ Hk
  iapply (wp_store (m := mm) (r := r') 𝒱₀ (c : Thread nD τ) none Set.univ (f := f) (S := mm.view.set) (mm.view.set_slice_subset r')) $$ H
  iintro H
  iapply Hk
  iexists ((mm.access r').write (Elt F) f w Finset.univ); isplitr
  · ipureintro
    funext i
    by_cases hi : i ∈ r'.set
    · obtain ⟨j, rfl⟩ := r'.exists_idx_of_mem hi
      exact (View.read_slice_write_emb r' f w (Finset.mem_univ j)).trans (Rect.overlay_emb r' X w j).symm
    · rw [Rect.overlay_of_not_mem _ _ _ hi, ← hf]
      exact View.read_slice_write_of_not_mem r' f w Finset.univ (by rwa [Rect.map_emb_univ])
  iexact H

/-- What a squeezed piece holds is what the piece holds, re-indexed. -/
theorem owns_squeeze {cs : Space} {s s' : Shape} {e : EltTy} (mm : Memref sig .tc cs s e) (h : s.Squeezes s') (q : PosShare TreeShare) (X : s'.Idx → Elt F e) :
    (owns (c : Thread nD τ) (mm.squeeze s' h) q X : sProp 𝕄)
      ⊣⊢ owns (c : Thread nD τ) mm q fun z => X ((Shape.reshapeEquiv h.numel_eq).symm z) := by
  unfold owns
  constructor
  · iintro ⟨%f, %hf, H⟩
    iexists f
    isplitr
    · ipureintro
      funext z
      rw [← hf]
      show mm.view.read (Elt F) f z = mm.view.read (Elt F) f (Shape.reshapeEquiv h.numel_eq ((Shape.reshapeEquiv h.numel_eq).symm z))
      rw [Equiv.apply_symm_apply]
    rw [← Memref.set_view_squeeze mm h]
    iexact H
  · iintro ⟨%f, %hf, H⟩
    iexists f
    isplitr
    · ipureintro
      funext z
      show mm.view.read (Elt F) f (Shape.reshapeEquiv h.numel_eq z) = X z
      rw [hf]
      exact congrArg X (Equiv.symm_apply_apply _ _)
    rw [Memref.set_view_squeeze mm h]
    iexact H

end Mem

/-! ## The shared cells -/

section Cells
variable (m : Mem F) (K : Dev nD × Cell → ℕ) (c : Dev nD)

/-- What every device knows: the levels, the cells' invariants, and that every cell's round is open. -/
def Recs : sProp 𝕄 :=
  iprop(levAts L lv ∗ (bigSep Finset.univ fun ck : Dev nD × Cell => cellInv ER (Rd m) (K ck) (kcell ck))
    ∗ bigSep Finset.univ fun ck : Dev nD × Cell => (reached ER (kcell ck) 0 : sProp 𝕄))
instance Recs_persistent : BI.Persistent (Recs m K) := by unfold Recs; infer_instance

theorem Recs_lev : Recs m K ⊢ levAts L lv := by
  unfold Recs; iintro ⟨#H, -, -⟩; iexact H
theorem Recs_inv (ck : Dev nD × Cell) : Recs m K ⊢ cellInv ER (Rd m) (K ck) (kcell ck) := by
  unfold Recs; iintro ⟨-, #H, -⟩
  iapply (show (bigSep Finset.univ fun ck : Dev nD × Cell => (cellInv ER (Rd m) (K ck) (kcell ck) : sProp 𝕄)) ⊢ cellInv ER (Rd m) (K ck) (kcell ck) from bigSep_elim (Finset.mem_univ ck)); iexact H
theorem Recs_reached (ck : Dev nD × Cell) : Recs m K ⊢ reached ER (kcell ck) 0 := by
  unfold Recs; iintro ⟨-, -, #H⟩
  iapply (show (bigSep Finset.univ fun ck : Dev nD × Cell => (reached ER (kcell ck) 0 : sProp 𝕄)) ⊢ reached ER (kcell ck) 0 from bigSep_elim (Finset.mem_univ ck)); iexact H

/-- Device `c` has made `k` of its payments. -/
def Ows (k : ℕ) : sProp 𝕄 := iprop(Recs m K ∗ ∃ W, owes (c : Thread nD τ) (Ow c k) W)

/-- A transfer not yet started: the right to raise both its cells, and the place in the round of its own. -/
def Tok (s j : Fin 4) : sProp 𝕄 :=
  iprop(dutyTok ER (kcell (c, snd s j)) 0 false ∗ dutyTok ER (kcell (tgt c s j, rcv s j)) 0 false ∗ atPos ER (kcell (c, snd s j)) 0 ∅ 0)
/-- A cell whose raise may be waited for. -/
def Due (k : Cell) (n : ℕ) : sProp 𝕄 := iprop(cred (tallyAt (kcell (c, k)) () n) ∗ atPos ER (kcell (c, k)) 0 ∅ 0)
/-- A cell that has been waited for: closed, its counter at zero. -/
def Shut (k : Cell) : sProp 𝕄 := semVal (kcell (c, k)) 0

section Rules
variable {α : Type} {Q : α → sProp (MT nD τ sig Unit (Elt F) ℕ UU ℕ)} {kk : PUnit → Prog (TpuEff nD τ sig (Elt F) Λ₀ .tc) α}

/-- A signal of a neighbour's barrier cell hands over what the neighbour is to have. -/
theorem step_signal (k : ℕ) (hk : k < 18) (d n : Dev nD) (b : Bool) (hn : n = d) (hi : (items c)[k]'hk = (d, none)) {am : ℕ} (ha : 1 = am) :
    iprop(Ows m K c k ∗ dutyTok ER (kcell (d, none)) 0 b ∗ pay m d none b)
      ⊢ iprop((Ows m K c (k + 1) -∗ runs c (kk ⟨⟩) Q) -∗ runs c (.op (.semSignal (n : Thread nD τ) barS am) kk) Q) := by
  subst hn ha
  unfold Ows
  iintro ⟨⟨#HR, %W, HO⟩, HT, HP⟩ Hk
  iapply (Rounds.wp_signal 𝒱₀ ER (Rd m) (c : Thread nD τ) none (dst := (n : Thread nD τ)) (sem := barS) (κ := K (n, none)) (r := 0)
      (d := b) (by rw [show ((n : Thread nD τ), SemLoc.reg barS) = kcell (n, none) from rfl, duties_bar]; exact Finset.mem_univ _)
      (amount_cell m n none b) () (O₀ := Ow c k) (Ow c (k + 1)) (by rw [Ow_step c k hk, hi]; rfl) (W := W)) $$ [HO HT HP]
  · rw [show ((n : Thread nD τ), SemLoc.reg barS) = kcell (n, none) from rfl]
    isplitr; · iapply (Recs_inv m K (n, none)); iexact HR
    isplitl [HO]; · iexact HO
    isplitl [HT]; · iexact HT
    isplitl [HP]; · iapply (Entails.of_eq (payload_cell m n none b).symm); iexact HP
    iapply (Recs_reached m K (n, none)); iexact HR
  iintro HO
  iapply Hk
  isplitr; · iexact HR
  iexists W; iexact HO

/-- The wait on the barrier cell: both neighbours' pieces. -/
theorem step_barrier (k : ℕ) (hr : room k 1) {am : ℕ} (ha : 2 = am) :
    iprop(Ows m K c k ∗ Due c none 2)
      ⊢ iprop((iprop(Ows m K c k ∗ barX c ∗ barY c ∗ Shut c none) -∗ runs c (kk ⟨⟩) Q) -∗ runs c (.op (.semWait barS am) kk) Q) := by
  subst ha
  unfold Ows Due Shut
  iintro ⟨⟨#HR, %W, HO⟩, HC, HA⟩ Hk
  iapply (Rounds.wp_wait_rest_token 𝒱₀ ER (Rd m) (c : Thread nD τ) none (κ := K (c, none))
      (wpE_semWait_eq 𝒱₀ (c : Thread nD τ) none Set.univ) (Set.mem_univ _) () (O := Ow c k) (W := W) (R := 0) (m := 0) (T := ∅)
      (by rw [show ((c : Thread nD τ), SemLoc.reg barS) = kcell (c, none) from rfl, expect_bar])) $$ [HC HO HA]
  · isplitr; · iapply (Recs_inv m K (c, none)); iexact HR
    isplitl [HC]; · iexact HC
    isplitl [HO]; · iexact HO
    isplitr
    · iapply (mayWait c (.reg barS) k 1 (le_of_eq (lv_kcell (c, none) ())) hr); iapply (Recs_lev m K); iexact HR
    iexact HA
  rw [show ((c : Thread nD τ), SemLoc.reg barS) = kcell (c, none) from rfl]
  iintro ⟨HO, HA, -, HP⟩
  ihave HP := (Entails.of_eq (rest_bar m c)) $$ HP
  icases HP with ⟨HX, HY⟩
  imod (Rounds.cell_close ER (Rd m) (Set.mem_univ (K (c, none))) (fun h => h) (R := 0 + 1) (duties_later m (kcell (c, none)))) $$ [HA] with HZ
  · isplitr; · iapply (Recs_inv m K (c, none)); iexact HR
    iexact HA
  iapply Hk
  isplitl [HO]
  · isplitr; · iexact HR
    iexists _; iexact HO
  isplitl [HX]; · iexact HX
  isplitl [HY]; · iexact HY
  iexact HZ

/-- The wait on any other shared cell: its payload. -/
theorem step_wait (k : ℕ) (x : Bool × Fin 4 × Fin 4) (hr : room k (lvl (some x))) {sem : DmaSem sig} (hs : csem (some x) = .dma sem)
    {sp sp' : Space} {s s' : Shape} {e e' : EltTy} {κ' : Kind} {srcw : Memref sig .tc sp' s' e'} {dstw : Memref sig κ' sp s e}
    {hsrc : srcw.view.WordExact} {hdst : dstw.view.WordExact} (hN : dstw.view.dmaCredit = NB) :
    iprop(Ows m K c k ∗ Due c (some x) NB)
      ⊢ iprop((iprop(Ows m K c k ∗ pay m c (some x) false ∗ Shut c (some x)) -∗ runs c (kk ⟨⟩) Q)
        -∗ runs c (.op (.waitDma2 sem srcw dstw hsrc hdst) kk) Q) := by
  have hc : ((c : Thread nD τ), SemLoc.dma sem) = kcell (c, some x) := by rw [← hs]
  unfold Ows Due Shut
  iintro ⟨⟨#HR, %W, HO⟩, HC, HA⟩ Hk
  iapply (Rounds.wp_wait_rest_token 𝒱₀ ER (Rd m) (c : Thread nD τ) none (κ := K (c, some x))
      (wpE_waitDma2_eq 𝒱₀ (c : Thread nD τ) none Set.univ) (Set.mem_univ _) () (O := Ow c k) (W := W) (R := 0) (m := 0) (T := ∅)
      (by rw [hc, expect_some, hN, Nat.zero_add])) $$ [HC HO HA]
  · rw [hc, hN]
    isplitr; · iapply (Recs_inv m K (c, some x)); iexact HR
    isplitl [HC]; · iexact HC
    isplitl [HO]; · iexact HO
    isplitr
    · iapply (mayWait c (.dma sem) k (lvl (some x)) (le_of_eq (by rw [hc]; exact lv_kcell (c, some x) ())) hr); iapply (Recs_lev m K); iexact HR
    iexact HA
  rw [hc]
  iintro ⟨HO, HA, -, HP⟩
  ihave HP := (Entails.of_eq (rest_some m c x)) $$ HP
  imod (Rounds.cell_close ER (Rd m) (Set.mem_univ (K (c, some x))) (fun h => h) (R := 0 + 1) (duties_later m (kcell (c, some x)))) $$ [HA] with HZ
  · isplitr; · iapply (Recs_inv m K (c, some x)); iexact HR
    iexact HA
  iapply Hk
  isplitl [HO]
  · isplitr; · iexact HR
    iexists _; iexact HO
  isplitl [HP]; · iexact HP
  iexact HZ

/-- A transfer to another device: its source comes back through its own cell, its target, written, and what goes with it
    (`G`) go to the other device through its. -/
theorem step_send (k : ℕ) (hk : k < 18) (s j : Fin 4) (hi : (items c)[k]'hk = (tgt c s j, rcv s j)) {n : Dev nD} (hn : n = tgt c s j)
    {sp sp' : Space} {sh : Shape} {e : EltTy} {src : Memref sig .tc sp sh e} {dst : Memref sig (n : Thread nD τ).2.kind sp' sh e}
    {sS sR : DmaSem sig} (hS : csem (snd s j) = .dma sS) (hR : csem (rcv s j) = .dma sR) {hsc : dst.view.ref.isScScratch = false}
    {hsrc : src.view.WordExact} {hdst : dst.view.WordExact} {hsem : DmaTarget.Typed sp (.dma sR) (.remote (n : Thread nD τ) dst (.dma sS) hsc)}
    (hN : dst.view.dmaCredit = NB) {q : PosShare TreeShare} {X : sh.Idx → Elt F e} {G : sProp 𝕄}
    (h₁ : owns (c : Thread nD τ) src q X ⊢ sndPay m c s j)
    (h₂ : iprop(owns (n : Thread nD τ) dst fullShare X ∗ G) ⊢ rcvPay m n s j) :
    iprop(Ows m K c k ∗ Tok c s j ∗ owns (c : Thread nD τ) src q X ∗ anyOf (F := F) n dst ∗ G)
      ⊢ iprop((iprop(Ows m K c (k + 1) ∗ Due c (snd s j) NB) -∗ runs c (kk ⟨⟩) Q)
        -∗ runs c (.op (.enqueueDma src (.remote (n : Thread nD τ) dst (.dma sS) hsc) (.dma sR) hsrc hdst hsem) kk) Q) := by
  subst hn
  have hcS : ((c : Thread nD τ), SemLoc.dma sS) = kcell (c, snd s j) := by rw [← hS]
  have hcR : (((tgt c s j : Dev nD) : Thread nD τ), SemLoc.dma sR) = kcell (tgt c s j, rcv s j) := by rw [← hR]
  unfold Ows Tok Due anyOf
  iintro ⟨⟨#HR, %W, HO⟩, ⟨HTS, HTR, HA⟩, Hs, ⟨%Y, Hd⟩, HG⟩ Hk
  unfold owns at h₁ h₂ ⊢
  icases Hs with ⟨%f, %hf, Hs⟩
  icases Hd with ⟨%g, -, Hd⟩
  iapply (Rounds.wp_send_pointsTo_with 𝒱₀ ER (Rd m) (c : Thread nD τ) none (κ₁ := K (c, snd s j)) (κ₂ := K (tgt c s j, rcv s j))
    (r₁ := 0) (r₂ := 0) (d₁ := false) (d₂ := false) (fs := f) (fd := g) (F := G) (q := q)
    (by rw [hcS, duties_some]; exact Finset.mem_singleton_self _) (by rw [hcR, duties_some]; exact Finset.mem_singleton_self _)
    () () NB (show dst.view.amount (.dma sR) = NB from hN) (by rw [hcS]; exact amount_cell m c (snd s j) false) (by rw [hcR]; exact amount_cell m (tgt c s j) (rcv s j) false)
    (O₀ := Ow c k) (Ow c (k + 1)) (by rw [hcR, Ow_step c k hk, hi]; rfl) (W := W)
    (by
      rw [hcS, payload_cell]
      refine BI.Entails.trans (show _ ⊢ (_ : sProp 𝕄) from ?_) h₁
      iintro H; iexists f; isplitr; · ipureintro; exact hf
      iexact H)
    (by
      rw [hcR, payload_cell]
      refine BI.Entails.trans (show _ ⊢ (_ : sProp 𝕄) from ?_) h₂
      iintro ⟨H, HG⟩
      isplitl [H]
      · iexists _; isplitr
        · ipureintro; exact (View.read_write_univ (v := dst.view) (Val := Elt F) g _).trans hf
        iexact H
      iexact HG)) $$ [HO HTS HTR Hs Hd HG]
  · rw [hcS, hcR]
    isplitr; · iapply (Recs_inv m K (c, snd s j)); iexact HR
    isplitr; · iapply (Recs_inv m K (tgt c s j, rcv s j)); iexact HR
    isplitl [Hs]; · iexact Hs
    isplitl [Hd HG]
    · isplitl [Hd]; · iexact Hd
      iexact HG
    isplitl [HO]; · iexact HO
    isplitl [HTS]; · iexact HTS
    isplitr; · iapply (Recs_reached m K (c, snd s j)); iexact HR
    isplitl [HTR]; · iexact HTR
    iapply (Recs_reached m K (tgt c s j, rcv s j)); iexact HR
  rw [hcS]
  iintro ⟨HC, HO⟩
  iapply Hk
  isplitl [HO]
  · isplitr; · iexact HR
    iexists W; iexact HO
  isplitl [HC]; · iexact HC
  iexact HA

end Rules

end Cells

end Cert.Fused
end
-- ==== Proof.Slots.lean ====
/-
  The staging slots: where each stands between the transfers that fill it and the loads that empty it; the rows of the
  first argument as they fill up; and the rules of the body's local transfers, loads and stores, one per buffer.
-/
module

public import proofs.«01_k».proof.Proof.Steps

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {α : Type} {Q : α → sProp (MT nD τ sig Unit (Elt F) ℕ UU ℕ)} {kk : PUnit → Prog (TpuEff nD τ sig (Elt F) Λ₀ .tc) α}

/-- A local transfer into a slot, started. -/
theorem step_fetch (c : Dev nD) {sp : Space} {s s₁ : Shape} {e : EltTy} {src : Memref sig .tc sp s e} {sl : Memref sig .tc .vmem s₁ e}
    (hsq : s₁.Squeezes s) {sem : DmaSem sig} {hsrc : src.view.WordExact} {hdst : (sl.squeeze s hsq).view.WordExact}
    {hsem : DmaTarget.Typed (nD := nD) (τ := τ) sp (.dma sem) (DmaTarget.here (p := .tc) (sl.squeeze s hsq))} (q : PosShare TreeShare) (X : s.Idx → Elt F e)
    (N : ℕ) (hN : (sl.squeeze s hsq).view.dmaCredit = N) (hN0 : 0 < N) :
    iprop(owns (c : Thread nD τ) src q X ∗ anyOf (F := F) c sl ∗ semVal ((c : Thread nD τ), SemLoc.dma sem) 0)
      ⊢ iprop((Transfers.Flight EC (c : Thread nD τ) (.dma sem) () N
            iprop(owns (c : Thread nD τ) sl fullShare (fun z => X ((Shape.reshapeEquiv hsq.numel_eq).symm z)) ∗ owns (c : Thread nD τ) src q X)
          -∗ runs c (kk ⟨⟩) Q)
        -∗ runs c (.op (.enqueueDma src (.here (sl.squeeze s hsq)) (.dma sem) hsrc hdst hsem) kk) Q) := by
  unfold anyOf
  iintro ⟨Hs, ⟨%Y, Hd⟩, Hz⟩ Hk
  unfold owns
  icases Hs with ⟨%f, %hf, Hs⟩
  icases Hd with ⟨%g, -, Hd⟩
  iapply (Transfers.wp_dmaLocal EC 𝒱₀ (c : Thread nD τ) none (fs := f) (q := q) (dst := sl.squeeze s hsq) (Sd := sl.view.set) (fd := g) () N
    (show (sl.squeeze s hsq).view.amount (.dma sem) = N from hN) hN0 (le_of_eq (Memref.set_view_squeeze sl hsq))) $$ [Hs Hd Hz]
  · isplitl [Hs]; · iexact Hs
    isplitl [Hd]; · iexact Hd
    iexact Hz
  iintro H
  iapply Hk
  iapply (Transfers.Flight_mono EC (c : Thread nD τ) (show _ ⊢ (_ : sProp 𝕄) from ?_)) $$ H
  iintro ⟨Hd, Hs⟩
  isplitl [Hd]
  · have hs : (sl.view.loc (c : Thread nD τ) ↦[sl.view.set]{fullShare}
          ((sl.squeeze s hsq).view.write (Elt F) g (src.view.read (Elt F) f) Finset.univ) : sProp 𝕄)
        ⊢ owns (c : Thread nD τ) sl fullShare (fun z => X ((Shape.reshapeEquiv hsq.numel_eq).symm z)) := by
      refine BI.Entails.trans ?_ (owns_squeeze c sl hsq fullShare X).1
      rw [← Memref.set_view_squeeze sl hsq, ← hf]
      refine BI.Entails.trans (owns_intro (c : Thread nD τ) (sl.squeeze s hsq) fullShare _) ?_
      rw [View.read_write_univ]
      exact BI.Entails.refl _
    unfold owns at hs
    iapply hs; iexact Hd
  · iexists f; isplitr; · ipureintro; exact hf
    iexact Hs

/-! ## The slots of the two arguments -/

/-- The semaphores of the slots' transfers. -/
abbrev saS (s : Fin 2) : DmaSem sig := ⟨1 + s.val, by revert s; decide⟩
abbrev swS (s : Fin 2) : DmaSem sig := ⟨3 + s.val, by revert s; decide⟩

/-- Each slot's transfers read the argument through a half of it. -/
def hs (s : Fin 2) : PosShare TreeShare := if s = 0 then fullShare.left else fullShare.right

abbrev NA : ℕ := ((asM 0).squeeze S1024x1024 squeezes_S1x1024x1024_S1024x1024).view.dmaCredit
abbrev NW : ℕ := ((wsM 0).squeeze S512x2048 squeezes_S1x512x2048_S512x2048).view.dmaCredit
theorem NA_eq (s : Fin 2) : ((asM s).squeeze S1024x1024 squeezes_S1x1024x1024_S1024x1024).view.dmaCredit = NA := rfl
theorem NW_eq (s : Fin 2) : ((wsM s).squeeze S512x2048 squeezes_S1x512x2048_S512x2048).view.dmaCredit = NW := rfl
theorem NA_pos : 0 < NA := View.dmaCredit_pos _ (by decide)
theorem NW_pos : 0 < NW := View.dmaCredit_pos _ (by decide)

theorem lv_sa (c : Dev nD) (s : Fin 2) : lv ((c : Thread nD τ), .dma (saS s)) () = 0 := by
  have h : cellIx (.dma (saS s)) = none := by revert s; decide
  unfold lv; rw [h]
theorem lv_sw (c : Dev nD) (s : Fin 2) : lv ((c : Thread nD τ), .dma (swS s)) () = 0 := by
  have h : cellIx (.dma (swS s)) = none := by revert s; decide
  unfold lv; rw [h]
/-- Nothing owed stands as low as a local transfer. -/
theorem room_zero (k : ℕ) : room k 0 := fun c x hx => by
  have h : ∀ c : Dev nD, ∀ x ∈ items c, 0 < lvl x.2 := by decide
  exact h c x (List.mem_of_mem_drop hx)

section Slots
variable (m : Mem F) (K : Dev nD × Cell → ℕ) (c : Dev nD)

/-- A landed local transfer, waited for by a device that owes. -/
theorem step_land (k : ℕ) {sem sem' : DmaSem sig} (hsem : sem' = sem) (h0 : lv ((c : Thread nD τ), .dma sem) () = 0) {N : ℕ} {D : sProp 𝕄}
    {sp sp' : Space} {s s' : Shape} {e e' : EltTy} {κ' : Kind} {srcw : Memref sig .tc sp' s' e'} {dstw : Memref sig κ' sp s e}
    {hsrc : srcw.view.WordExact} {hdst : dstw.view.WordExact} (hN : dstw.view.dmaCredit = N) :
    iprop(Ows m K c k ∗ Transfers.Flight EC (c : Thread nD τ) (.dma sem) () N D)
      ⊢ iprop((iprop(Ows m K c k ∗ D ∗ semVal ((c : Thread nD τ), SemLoc.dma sem) 0) -∗ runs c (kk ⟨⟩) Q)
        -∗ runs c (.op (.waitDma2 sem' srcw dstw hsrc hdst) kk) Q) := by
  subst hsem
  unfold Ows
  iintro ⟨⟨#HR, %W, HO⟩, HF⟩ Hk
  iapply (Transfers.wp_waitLocalO EC 𝒱₀ (c : Thread nD τ) none () hN (O := Ow c k) (W := W)) $$ [HO HF]
  · isplitl [HF]; · iexact HF
    isplitl [HO]; · iexact HO
    iapply (mayWait c (.dma sem') k 0 (le_of_eq h0) (room_zero k)); iapply (Recs_lev m K); iexact HR
  iintro ⟨HD, HZ, HO⟩
  iapply Hk
  isplitl [HO]
  · isplitr; · iexact HR
    iexists _; iexact HO
  isplitl [HD]; · iexact HD
  iexact HZ

/-- Slot `s` of the first argument's pieces empty, -/
def AIdle (s : Fin 2) : sProp 𝕄 :=
  iprop(owns (c : Thread nD τ) hA (hs s) (argA m c) ∗ anyOf (F := F) c (asM s) ∗ semVal ((c : Thread nD τ), SemLoc.dma (saS s)) 0)
/-- piece `g` on its way to it, -/
def AFly (s : Fin 2) (g : Fin 8) : sProp 𝕄 :=
  iprop(Transfers.Flight EC (c : Thread nD τ) (.dma (saS s)) () NA
      iprop(owns (c : Thread nD τ) (asM s) fullShare (aT m c g) ∗ owns (c : Thread nD τ) (hA.slice (haR c g) (fun _ => rfl)) (hs s) (fun i => argA m c ((haR c g).emb i)))
    ∗ ∃ f, ⌜hA.view.read (Elt F) f = argA m c⌝ ∗ hA.view.loc (c : Thread nD τ) ↦[hA.view.set \ (hA.slice (haR c g) (fun _ => rfl)).view.set]{hs s} f)
/-- and there. -/
def AHave (s : Fin 2) (g : Fin 8) : sProp 𝕄 :=
  iprop(owns (c : Thread nD τ) hA (hs s) (argA m c) ∗ owns (c : Thread nD τ) (asM s) fullShare (aT m c g) ∗ semVal ((c : Thread nD τ), SemLoc.dma (saS s)) 0)

/-- The transfer of piece `g` of the first argument into slot `s`, -/
theorem step_fetchA (s : Fin 2) (g : Fin 8) {off' : Fin S2048x8192.rank → ℕ} {p' : ∀ a, off' a + S1024x1024.size a ≤ S2048x8192.size a}
    (ho : off' = ![1024 * (c.val / 2), 1024 * g.val]) {sem : DmaSem sig} (hsem : sem = saS s)
    {hsrc : (hA.slice (Rect.unit (s := S2048x8192) off' S1024x1024.size p') (fun _ => rfl)).view.WordExact}
    {hdst : ((asM s).squeeze S1024x1024 squeezes_S1x1024x1024_S1024x1024).view.WordExact}
    {ht : DmaTarget.Typed (nD := nD) (τ := τ) .hbm (.dma sem) (DmaTarget.here (p := .tc) ((asM s).squeeze S1024x1024 squeezes_S1x1024x1024_S1024x1024))} :
    AIdle m c s ⊢ iprop((AFly m c s g -∗ runs c (kk ⟨⟩) Q)
      -∗ runs c (.op (.enqueueDma (hA.slice (Rect.unit (s := S2048x8192) off' S1024x1024.size p') (fun _ => rfl))
          (.here ((asM s).squeeze S1024x1024 squeezes_S1x1024x1024_S1024x1024)) (.dma sem) hsrc hdst ht) kk) Q) := by
  subst ho hsem
  unfold AIdle AFly
  iintro ⟨HA, HS, HZ⟩ Hk
  ihave HA := (owns_slice_split (c : Thread nD τ) hA (hs s) (haR c g) (fun _ => rfl) (argA m c)) $$ HA
  icases HA with ⟨HP, HA⟩
  iapply (step_fetch c (sl := asM s) squeezes_S1x1024x1024_S1024x1024 (hs s) (fun i => argA m c ((haR c g).emb i)) NA (NA_eq s) NA_pos) $$ [HP HS HZ]
  · isplitl [HP]; · iexact HP
    isplitl [HS]; · iexact HS
    iexact HZ
  iintro HF
  iapply Hk
  isplitl [HF]; · iexact HF
  iexact HA

/-- its end, -/
theorem step_landA (k : ℕ) (s : Fin 2) (g : Fin 8) {sem : DmaSem sig} (hsem : sem = saS s)
    {sp sp' : Space} {sh s' : Shape} {e e' : EltTy} {κ' : Kind} {srcw : Memref sig .tc sp' s' e'} {dstw : Memref sig κ' sp sh e}
    {hsrc : srcw.view.WordExact} {hdst : dstw.view.WordExact} (hN : dstw.view.dmaCredit = NA) :
    iprop(Ows m K c k ∗ AFly m c s g)
      ⊢ iprop((iprop(Ows m K c k ∗ AHave m c s g) -∗ runs c (kk ⟨⟩) Q) -∗ runs c (.op (.waitDma2 sem srcw dstw hsrc hdst) kk) Q) := by
  unfold AFly AHave
  iintro ⟨HO, HF, ⟨%f, %hf, HA⟩⟩ Hk
  iapply (step_land m K c k hsem (lv_sa c s) hN) $$ [HO HF]
  · isplitl [HO]; · iexact HO
    iexact HF
  iintro ⟨HO, ⟨HS, HP⟩, HZ⟩
  iapply Hk
  isplitl [HO]; · iexact HO
  isplitl [HP HA]
  · have hj : (haR c g).overlay (hA.view.read (Elt F) f) (fun i => argA m c ((haR c g).emb i)) = argA m c := by
      funext i
      by_cases hi : i ∈ (haR c g).set
      · obtain ⟨j, rfl⟩ := (haR c g).exists_idx_of_mem hi
        exact Rect.overlay_emb (haR c g) _ _ j
      · rw [Rect.overlay_of_not_mem _ _ _ hi, hf]
    have hjoin : _ ⊢ (_ : sProp 𝕄) := owns_slice_join (c : Thread nD τ) hA (hs s) (haR c g) (fun _ => rfl) (fun i => argA m c ((haR c g).emb i)) f
    rw [hj] at hjoin
    iapply hjoin
    isplitl [HP]; · iexact HP
    iexact HA
  isplitl [HS]; · iexact HS
  iexact HZ

/-- and the load that empties the slot. -/
theorem step_loadA (s : Fin 2) (g : Fin 8) {hl : asA.view.LoadsAt (asR s).toLoadRect}
    {k : (S1x1024x1024.Idx → Elt F .f32) → Prog (TpuEff nD τ sig (Elt F) Λ₀ .tc) α} :
    AHave m c s g ⊢ iprop((AIdle m c s -∗ runs c (k (aT m c g)) Q) -∗ runs c (.op (.load asA (asR s).toLoadRect hl) k) Q) := by
  unfold AHave AIdle
  iintro ⟨HA, HS, HZ⟩ Hk
  iapply (step_load (mm := asA) c (rfl : ![s.val, 0, 0] = ![s.val, 0, 0])) $$ [HS]
  · iexact HS
  iintro HS
  iapply Hk
  isplitl [HA]; · iexact HA
  isplitl [HS]; · unfold anyOf; iexists _; iexact HS
  iexact HZ

/-- Slot `s` of the second argument's pieces empty, -/
def WIdle (s : Fin 2) : sProp 𝕄 :=
  iprop(owns (c : Thread nD τ) hW (hs s) (argW m c) ∗ anyOf (F := F) c (wsM s) ∗ semVal ((c : Thread nD τ), SemLoc.dma (swS s)) 0)
/-- piece `g` on its way to it, -/
def WFly (s : Fin 2) (g : Fin 16) : sProp 𝕄 :=
  iprop(Transfers.Flight EC (c : Thread nD τ) (.dma (swS s)) () NW
      iprop(owns (c : Thread nD τ) (wsM s) fullShare (wT m c g) ∗ owns (c : Thread nD τ) (hW.slice (hwR g) (fun _ => rfl)) (hs s) (fun i => argW m c ((hwR g).emb i)))
    ∗ ∃ f, ⌜hW.view.read (Elt F) f = argW m c⌝ ∗ hW.view.loc (c : Thread nD τ) ↦[hW.view.set \ (hW.slice (hwR g) (fun _ => rfl)).view.set]{hs s} f)
/-- and there. -/
def WHave (s : Fin 2) (g : Fin 16) : sProp 𝕄 :=
  iprop(owns (c : Thread nD τ) hW (hs s) (argW m c) ∗ owns (c : Thread nD τ) (wsM s) fullShare (wT m c g) ∗ semVal ((c : Thread nD τ), SemLoc.dma (swS s)) 0)

/-- The transfer of piece `g` of the second argument into slot `s`, -/
theorem step_fetchW (s : Fin 2) (g : Fin 16) {off' : Fin S2048x8192.rank → ℕ} {p' : ∀ a, off' a + S512x2048.size a ≤ S2048x8192.size a}
    (ho : off' = ![512 * (g.val / 4), 2048 * (g.val % 4)]) {sem : DmaSem sig} (hsem : sem = swS s)
    {hsrc : (hW.slice (Rect.unit (s := S2048x8192) off' S512x2048.size p') (fun _ => rfl)).view.WordExact}
    {hdst : ((wsM s).squeeze S512x2048 squeezes_S1x512x2048_S512x2048).view.WordExact}
    {ht : DmaTarget.Typed (nD := nD) (τ := τ) .hbm (.dma sem) (DmaTarget.here (p := .tc) ((wsM s).squeeze S512x2048 squeezes_S1x512x2048_S512x2048))} :
    WIdle m c s ⊢ iprop((WFly m c s g -∗ runs c (kk ⟨⟩) Q)
      -∗ runs c (.op (.enqueueDma (hW.slice (Rect.unit (s := S2048x8192) off' S512x2048.size p') (fun _ => rfl))
          (.here ((wsM s).squeeze S512x2048 squeezes_S1x512x2048_S512x2048)) (.dma sem) hsrc hdst ht) kk) Q) := by
  subst ho hsem
  unfold WIdle WFly
  iintro ⟨HW, HS, HZ⟩ Hk
  ihave HW := (owns_slice_split (c : Thread nD τ) hW (hs s) (hwR g) (fun _ => rfl) (argW m c)) $$ HW
  icases HW with ⟨HP, HW⟩
  iapply (step_fetch c (sl := wsM s) squeezes_S1x512x2048_S512x2048 (hs s) (fun i => argW m c ((hwR g).emb i)) NW (NW_eq s) NW_pos) $$ [HP HS HZ]
  · isplitl [HP]; · iexact HP
    isplitl [HS]; · iexact HS
    iexact HZ
  iintro HF
  iapply Hk
  isplitl [HF]; · iexact HF
  iexact HW

/-- its end, -/
theorem step_landW (k : ℕ) (s : Fin 2) (g : Fin 16) {sem : DmaSem sig} (hsem : sem = swS s)
    {sp sp' : Space} {sh s' : Shape} {e e' : EltTy} {κ' : Kind} {srcw : Memref sig .tc sp' s' e'} {dstw : Memref sig κ' sp sh e}
    {hsrc : srcw.view.WordExact} {hdst : dstw.view.WordExact} (hN : dstw.view.dmaCredit = NW) :
    iprop(Ows m K c k ∗ WFly m c s g)
      ⊢ iprop((iprop(Ows m K c k ∗ WHave m c s g) -∗ runs c (kk ⟨⟩) Q) -∗ runs c (.op (.waitDma2 sem srcw dstw hsrc hdst) kk) Q) := by
  unfold WFly WHave
  iintro ⟨HO, HF, ⟨%f, %hf, HW⟩⟩ Hk
  iapply (step_land m K c k hsem (lv_sw c s) hN) $$ [HO HF]
  · isplitl [HO]; · iexact HO
    iexact HF
  iintro ⟨HO, ⟨HS, HP⟩, HZ⟩
  iapply Hk
  isplitl [HO]; · iexact HO
  isplitl [HP HW]
  · have hj : (hwR g).overlay (hW.view.read (Elt F) f) (fun i => argW m c ((hwR g).emb i)) = argW m c := by
      funext i
      by_cases hi : i ∈ (hwR g).set
      · obtain ⟨j, rfl⟩ := (hwR g).exists_idx_of_mem hi
        exact Rect.overlay_emb (hwR g) _ _ j
      · rw [Rect.overlay_of_not_mem _ _ _ hi, hf]
    have hjoin : _ ⊢ (_ : sProp 𝕄) := owns_slice_join (c : Thread nD τ) hW (hs s) (hwR g) (fun _ => rfl) (fun i => argW m c ((hwR g).emb i)) f
    rw [hj] at hjoin
    iapply hjoin
    isplitl [HP]; · iexact HP
    iexact HW
  isplitl [HS]; · iexact HS
  iexact HZ

/-- and the load that empties the slot. -/
theorem step_loadW (s : Fin 2) (g : Fin 16) {hl : wsA.view.LoadsAt (wsR s).toLoadRect}
    {k : (S1x512x2048.Idx → Elt F .f32) → Prog (TpuEff nD τ sig (Elt F) Λ₀ .tc) α} :
    WHave m c s g ⊢ iprop((WIdle m c s -∗ runs c (k (wT m c g)) Q) -∗ runs c (.op (.load wsA (wsR s).toLoadRect hl) k) Q) := by
  unfold WHave WIdle
  iintro ⟨HW, HS, HZ⟩ Hk
  iapply (step_load (mm := wsA) c (rfl : ![s.val, 0, 0] = ![s.val, 0, 0])) $$ [HS]
  · iexact HS
  iintro HS
  iapply Hk
  isplitl [HW]; · iexact HW
  isplitl [HS]; · unfold anyOf; iexists _; iexact HS
  iexact HZ

/-! ## The rounded rows of the first argument, filled piece by piece -/

/-- The first `n` pieces are in place. -/
def AB (n : ℕ) : sProp 𝕄 :=
  iprop(∃ X, ⌜∀ i : S1024x8192.Idx, (i 1).val < 1024 * n → X i = aF m c i⌝ ∗ owns (c : Thread nD τ) aA fullShare X)

/-- A load whose value is not used. -/
theorem step_loadAB (n : ℕ) {r' : Rect S1024x8192} {hl : aA.view.LoadsAt r'.toLoadRect}
    {k : (r'.shape.Idx → Elt F .bf16) → Prog (TpuEff nD τ sig (Elt F) Λ₀ .tc) α} :
    AB m c n ⊢ iprop((∀ v, AB m c n -∗ runs c (k v) Q) -∗ runs c (.op (.load aA r'.toLoadRect hl) k) Q) := by
  unfold AB
  iintro ⟨%X, %hX, H⟩ Hk
  iapply (step_load_whole (mm := aA) c) $$ [H]
  · iexact H
  iintro H
  iapply Hk
  iexists X; isplitr; · ipureintro; exact hX
  iexact H

/-- A rectangle's index, by coordinate. -/
theorem unit_idx {s : Shape} (off size : Fin s.rank → ℕ) (inb : ∀ a, off a + size a ≤ s.size a) (j : (Rect.unit (s := s) off size inb).shape.Idx)
    (a : Fin s.rank) : ((Rect.unit (s := s) off size inb).idx j a).val = off a + (j a).val := by
  show off a + 1 * (j a).val = _
  rw [Nat.one_mul]

/-- Writing piece `g` over rows whose first `g` pieces are in place puts the first `g + 1` in place. -/
theorem filled (g : Fin 8) (X : S1024x8192.Idx → Elt F .bf16) (hX : ∀ i : S1024x8192.Idx, (i 1).val < 1024 * g.val → X i = aF m c i)
    (i : S1024x8192.Idx) (hi : (i 1).val < 1024 * (g.val + 1)) : (abR g).overlay X (k0_pay1 (aT m c g)) i = aF m c i := by
  by_cases h : i ∈ (abR g).set
  · obtain ⟨j, rfl⟩ := (abR g).exists_idx_of_mem h
    refine (Rect.overlay_emb (abR g) X _ j).trans ?_
    have hj : (j 1).val < 1024 := (j 1).isLt
    have e1 : (((abR g).idx j) 1).val = 1024 * g.val + (j 1).val := unit_idx _ _ _ _ _
    have e0 : (((abR g).idx j) 0).val = 0 + (j 0).val := unit_idx _ _ _ _ _
    unfold aF
    have hg : (⟨(((abR g).idx j) 1).val / 1024, by have := idx2_lt1 ((abR g).idx j); omega⟩ : Fin 8) = g := Fin.ext (by
      show (((abR g).idx j) 1).val / 1024 = g.val
      rw [e1]; omega)
    rw [hg]
    refine congrArg _ ?_
    funext a
    match a with
    | 0 => exact Fin.ext (by rw [Nat.zero_add] at e0; exact e0.symm)
    | 1 => exact Fin.ext (by
        show (j 1).val = (((abR g).idx j) 1).val % 1024
        rw [e1]; omega)
  · refine (Rect.overlay_of_not_mem (abR g) X _ h).trans (hX i ?_)
    by_contra hlt
    refine h ?_
    have h1 : (i 1).val < 8192 := (i 1).isLt
    have h0 : (i 0).val < 1024 := (i 0).isLt
    refine Rect.mem_set_unit.mpr fun a => ?_
    match a with
    | 0 => exact ⟨Nat.zero_le _, by show (i 0).val < 0 + 1024; omega⟩
    | 1 => exact ⟨by show 1024 * g.val ≤ (i 1).val; omega, by show (i 1).val < 1024 * g.val + 1024; omega⟩

/-- The store of piece `g`. -/
theorem step_storeAB (g : Fin 8) {w : S1024x1024.Idx → Elt F .bf16} (hw : w = k0_pay1 (aT m c g))
    {hx : (aA.access (abR g)).Stores Finset.univ} {hm : (Finset.univ : Finset (abR g).shape.Idx) = Finset.univ ∨ ∀ a, (abR g).stride a = 1} :
    AB m c g.val ⊢ iprop((AB m c (g.val + 1) -∗ runs c (kk ⟨⟩) Q) -∗ runs c (.op (.store aA (abR g) w Finset.univ hx hm) kk) Q) := by
  subst hw
  unfold AB
  iintro ⟨%X, %hX, H⟩ Hk
  iapply (step_store_part (mm := aA) c) $$ [H]
  · iexact H
  iintro H
  iapply Hk
  iexists ((abR g).overlay X (k0_pay1 (aT m c g))); isplitr
  · ipureintro; exact filled m c g X hX
  iexact H

/-- The load of columns `2048 k …`, once in place. -/
theorem step_loadK (n : ℕ) (k : Fin 4) (hn : 2 * (k.val + 1) ≤ n) {hl : aA.view.LoadsAt (akR k).toLoadRect}
    {kx : (S1024x2048.Idx → Elt F .bf16) → Prog (TpuEff nD τ sig (Elt F) Λ₀ .tc) α} :
    AB m c n ⊢ iprop((AB m c n -∗ runs c (kx (aK m c k)) Q) -∗ runs c (.op (.load aA (akR k).toLoadRect hl) kx) Q) := by
  unfold AB
  iintro ⟨%X, %hX, H⟩ Hk
  iapply (step_load_whole (mm := aA) (r' := akR k) c) $$ [H]
  · iexact H
  iintro H
  rw [show (fun i => X ((akR k).emb i)) = aK m c k from funext fun i => hX _ (by
    have e1 : (((akR k).idx i) 1).val = 2048 * k.val + (i 1).val := unit_idx _ _ _ _ _
    have h1 : (i 1).val < 2048 := (i 1).isLt
    show (((akR k).idx i) 1).val < _
    rw [e1]; omega)]
  iapply Hk
  iexists X; isplitr; · ipureintro; exact hX
  iexact H

end Slots

end Cert.Fused
end
-- ==== Proof.Moves.lean ====
/-
  The rules for the accumulators, the halves sent and received, the pieces of the result, and for each of the four stages
  of transfers between devices: its start, and the two waits at its ends.
-/
module

public import proofs.«01_k».proof.Proof.Slots

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {α : Type} {Q : α → sProp (MT nD τ sig Unit (Elt F) ℕ UU ℕ)} {kk : PUnit → Prog (TpuEff nD τ sig (Elt F) Λ₀ .tc) α}

/-! ## Offsets, as the rectangles name them -/

theorem off9 (c : Dev nD) : k0_off9 c = ![(0 : Fin 2).val, 512 * (otherHalf c).val, 0] := (k0_off9_eq c).trans (by revert c; decide)
theorem off10 (c : Dev nD) : k0_off10 c = ![(1 : Fin 2).val, 512 * (otherHalf c).val, 0] := (k0_off10_eq c).trans (by revert c; decide)
theorem off11 (c : Dev nD) : k0_off11 c = ![(0 : Fin 2).val, 512 * (half c).val, 0] := (k0_off11_eq c).trans (by revert c; decide)
theorem off14 (c : Dev nD) : k0_off14 c = ![(1 : Fin 2).val, 512 * (half c).val, 0] := (k0_off14_eq c).trans (by revert c; decide)
theorem off12 (c : Dev nD) : k0_off12 c = ![512 * c.val, 512 * (0 : Fin 4).val] := (k0_off12_eq c).trans (by revert c; decide)
theorem off13 (c : Dev nD) : k0_off13 c = ![512 * c.val, 512 * (0 : Fin 4).val] := (k0_off13_eq c).trans (by revert c; decide)
theorem off15 (c : Dev nD) : k0_off15 c = ![512 * c.val, 512 * (1 : Fin 4).val] := (k0_off15_eq c).trans (by revert c; decide)
theorem off16 (c : Dev nD) : k0_off16 c = ![512 * c.val, 512 * (1 : Fin 4).val] := (k0_off16_eq c).trans (by revert c; decide)
theorem off18 (c : Dev nD) : k0_off18 c = ![512 * c.val, 512 * (2 : Fin 4).val] := (k0_off18_eq c).trans (by revert c; decide)
theorem off19 (c : Dev nD) : k0_off19 c = ![512 * c.val, 512 * (2 : Fin 4).val] := (k0_off19_eq c).trans (by revert c; decide)
theorem off21 (c : Dev nD) : k0_off21 c = ![512 * c.val, 512 * (3 : Fin 4).val] := (k0_off21_eq c).trans (by revert c; decide)
theorem off22 (c : Dev nD) : k0_off22 c = ![512 * c.val, 512 * (3 : Fin 4).val] := (k0_off22_eq c).trans (by revert c; decide)
theorem off17 (c : Dev nD) : k0_off17 c = ![512 * (yn c).val, 512 * (0 : Fin 4).val] := (k0_off17_eq c).trans (by revert c; decide)
theorem off20 (c : Dev nD) : k0_off20 c = ![512 * (yn c).val, 512 * (1 : Fin 4).val] := (k0_off20_eq c).trans (by revert c; decide)
theorem off23 (c : Dev nD) : k0_off23 c = ![512 * (yn c).val, 512 * (2 : Fin 4).val] := (k0_off23_eq c).trans (by revert c; decide)

/-! ## Accumulators, halves, pieces of the result -/

section Local
variable (c : Dev nD)

/-- A piece at some contents is the piece. -/
theorem owns_any {sp : Space} {sh : Shape} {e : EltTy} (x : Memref sig .tc sp sh e) (X : sh.Idx → Elt F e) :
    (owns (c : Thread nD τ) x fullShare X : sProp 𝕄) ⊢ anyOf (F := F) c x := by
  unfold anyOf; iintro H; iexists X; iexact H

/-- A load of an accumulator, -/
theorem step_loadC (s : Fin 2) {X : S1x1024x512.Idx → Elt F .f32} {hl : acA.view.LoadsAt (acR s).toLoadRect}
    {k : (S1x1024x512.Idx → Elt F .f32) → Prog (TpuEff nD τ sig (Elt F) Λ₀ .tc) α} :
    owns (c : Thread nD τ) (acM s) fullShare X
      ⊢ iprop((owns (c : Thread nD τ) (acM s) fullShare X -∗ runs c (k X) Q) -∗ runs c (.op (.load acA (acR s).toLoadRect hl) k) Q) :=
  step_load (mm := acA) c (rfl : ![s.val, 0, 0] = ![s.val, 0, 0])

/-- a store, -/
theorem step_storeC (s : Fin 2) {X w : S1x1024x512.Idx → Elt F .f32} {hx : (acA.access (acR s)).Stores Finset.univ}
    {hm : (Finset.univ : Finset (acR s).shape.Idx) = Finset.univ ∨ ∀ a, (acR s).stride a = 1} :
    owns (c : Thread nD τ) (acM s) fullShare X
      ⊢ iprop((owns (c : Thread nD τ) (acM s) fullShare w -∗ runs c (kk ⟨⟩) Q) -∗ runs c (.op (.store acA (acR s) w Finset.univ hx hm) kk) Q) :=
  step_store (mm := acA) c (rfl : ![s.val, 0, 0] = ![s.val, 0, 0])

/-- a load of one half. -/
theorem step_loadH (s h : Fin 2) {off' : Fin S2x1024x512.rank → ℕ} {p' : ∀ a, off' a + S1x512x512.size a ≤ S2x1024x512.size a}
    (ho : off' = ![s.val, 512 * h.val, 0]) {X : S1x1024x512.Idx → Elt F .f32}
    {hl : acA.view.LoadsAt (Rect.unit (s := S2x1024x512) off' S1x512x512.size p').toLoadRect}
    {k : (S1x512x512.Idx → Elt F .f32) → Prog (TpuEff nD τ sig (Elt F) Λ₀ .tc) α} :
    owns (c : Thread nD τ) (acM s) fullShare X
      ⊢ iprop((owns (c : Thread nD τ) (acM s) fullShare X -∗ runs c (k fun i => X (halfAt h i)) Q)
        -∗ runs c (.op (.load acA (Rect.unit (s := S2x1024x512) off' S1x512x512.size p').toLoadRect hl) k) Q) := by
  subst ho
  exact step_load_part (mm := acA) c (r := acR s) (r' := Rect.unit (s := S2x1024x512) ![s.val, 512 * h.val, 0] S1x512x512.size p')
    (fun _ => rfl) (halfAt h) (fun i => funext fun a => Fin.ext (by
      show ![s.val, 512 * h.val, 0] a + 1 * (i a).val = ![s.val, 0, 0] a + 1 * (halfAt h i a).val
      match a with
      | 0 => rfl
      | 1 => show 512 * h.val + 1 * (i 1).val = 0 + 1 * (512 * h.val + (i 1).val); omega
      | 2 => rfl))

/-- The half to be sent: its load, -/
theorem step_loadRs (s : Fin 2) {X : S1x512x512.Idx → Elt F .bf16} {hl : rsA.view.LoadsAt (rsR s).toLoadRect}
    {k : (S1x512x512.Idx → Elt F .bf16) → Prog (TpuEff nD τ sig (Elt F) Λ₀ .tc) α} :
    owns (c : Thread nD τ) (rsM s) fullShare X
      ⊢ iprop((owns (c : Thread nD τ) (rsM s) fullShare X -∗ runs c (k X) Q) -∗ runs c (.op (.load rsA (rsR s).toLoadRect hl) k) Q) :=
  step_load (mm := rsA) c (rfl : ![s.val, 0, 0] = ![s.val, 0, 0])

/-- its store. -/
theorem step_storeRs (s : Fin 2) {X w : S1x512x512.Idx → Elt F .bf16} {hx : (rsA.access (rsR s)).Stores Finset.univ}
    {hm : (Finset.univ : Finset (rsR s).shape.Idx) = Finset.univ ∨ ∀ a, (rsR s).stride a = 1} :
    owns (c : Thread nD τ) (rsM s) fullShare X
      ⊢ iprop((owns (c : Thread nD τ) (rsM s) fullShare w -∗ runs c (kk ⟨⟩) Q) -∗ runs c (.op (.store rsA (rsR s) w Finset.univ hx hm) kk) Q) :=
  step_store (mm := rsA) c (rfl : ![s.val, 0, 0] = ![s.val, 0, 0])

/-- The received half: its load. -/
theorem step_loadRv (j : Fin 4) {X : S512x512.Idx → Elt F .bf16} {hl : rvA.view.LoadsAt (rvR j).toLoadRect}
    {k : (S512x512.Idx → Elt F .bf16) → Prog (TpuEff nD τ sig (Elt F) Λ₀ .tc) α} :
    owns (c : Thread nD τ) (rvM j) fullShare X
      ⊢ iprop((owns (c : Thread nD τ) (rvM j) fullShare X -∗ runs c (k X) Q) -∗ runs c (.op (.load rvA (rvR j).toLoadRect hl) k) Q) :=
  step_load (mm := rvA) c (rfl : ![0, 512 * j.val] = ![0, 512 * j.val])

/-- A piece of the result: its load, -/
theorem step_loadO (q j : Fin 4) {off' : Fin S2048x2048.rank → ℕ} {p' : ∀ a, off' a + S512x512.size a ≤ S2048x2048.size a}
    (ho : off' = ![512 * q.val, 512 * j.val]) {X : S512x512.Idx → Elt F .bf16}
    {hl : oA.view.LoadsAt (Rect.unit (s := S2048x2048) off' S512x512.size p').toLoadRect}
    {k : (S512x512.Idx → Elt F .bf16) → Prog (TpuEff nD τ sig (Elt F) Λ₀ .tc) α} :
    owns (c : Thread nD τ) (oM q j) fullShare X
      ⊢ iprop((owns (c : Thread nD τ) (oM q j) fullShare X -∗ runs c (k X) Q)
        -∗ runs c (.op (.load oA (Rect.unit (s := S2048x2048) off' S512x512.size p').toLoadRect hl) k) Q) :=
  step_load (mm := oA) c ho

/-- its store. -/
theorem step_storeO (q j : Fin 4) {off' : Fin S2048x2048.rank → ℕ} {p' : ∀ a, off' a + S512x512.size a ≤ S2048x2048.size a}
    (ho : off' = ![512 * q.val, 512 * j.val]) {X w : S512x512.Idx → Elt F .bf16}
    {hx : (oA.access (Rect.unit (s := S2048x2048) off' S512x512.size p')).Stores Finset.univ}
    {hm : (Finset.univ : Finset (Rect.unit (s := S2048x2048) off' S512x512.size p').shape.Idx) = Finset.univ
      ∨ ∀ a, (Rect.unit (s := S2048x2048) off' S512x512.size p').stride a = 1} :
    owns (c : Thread nD τ) (oM q j) fullShare X
      ⊢ iprop((owns (c : Thread nD τ) (oM q j) fullShare w -∗ runs c (kk ⟨⟩) Q)
        -∗ runs c (.op (.store oA (Rect.unit (s := S2048x2048) off' S512x512.size p') w Finset.univ hx hm) kk) Q) :=
  step_store (mm := oA) c ho

end Local

/-! ## The transfers between devices -/

section Stages
variable (m : Mem F) (K : Dev nD × Cell → ℕ) (c : Dev nD)

/-- What goes with the half of column block `j`. -/
def extra (j : Fin 4) : sProp 𝕄 := if j = 0 then anyOf (F := F) (xn c) (oM (yn c) 3) else iprop(emp)

/-- A half sent to the neighbour in the row. -/
theorem step_sendRS (k : ℕ) (j : Fin 4) (hk : k < 18) (hi : (items c)[k]'hk = (yn c, rcv 0 j)) {n : Dev nD} (hn : n = yn c)
    {sS sR : DmaSem sig} (hS : csem (snd 0 j) = .dma sS) (hR : csem (rcv 0 j) = .dma sR)
    {hsc : (rvM j : Memref sig (n : Thread nD τ).2.kind .vmem S512x512 .bf16).view.ref.isScScratch = false}
    {hsrc : ((rsM (slot j)).squeeze S512x512 squeezes_S1x512x512_S512x512).view.WordExact} {hdst : (rvM j).view.WordExact}
    {hsem : DmaTarget.Typed .vmem (.dma sR) (.remote (n : Thread nD τ) (rvM j : Memref sig (n : Thread nD τ).2.kind .vmem S512x512 .bf16) (.dma sS) hsc)} :
    iprop(Ows m K c k ∗ Tok c 0 j ∗ owns (c : Thread nD τ) (rsM (slot j)) fullShare (rsS m c j) ∗ anyOf (F := F) (yn c) (rvM j) ∗ extra c j)
      ⊢ iprop((iprop(Ows m K c (k + 1) ∗ Due c (snd 0 j) NB) -∗ runs c (kk ⟨⟩) Q)
        -∗ runs c (.op (.enqueueDma ((rsM (slot j)).squeeze S512x512 squeezes_S1x512x512_S512x512)
            (.remote (n : Thread nD τ) (rvM j : Memref sig (n : Thread nD τ).2.kind .vmem S512x512 .bf16) (.dma sS) hsc) (.dma sR) hsrc hdst hsem) kk) Q) := by
  subst hn
  have hx : (fun z => rsV m c j ((Shape.reshapeEquiv squeezes_S1x512x512_S512x512.numel_eq).symm z)) = rsS m c j := funext fun z => by
    unfold rsV; rw [Equiv.apply_symm_apply]
  have hsq := owns_squeeze c (rsM (slot j)) squeezes_S1x512x512_S512x512 fullShare (rsV m c j)
  rw [hx] at hsq
  iintro ⟨HO, HT, HS, HD, HG⟩ Hk
  ihave HS := hsq.2 $$ HS
  iapply (step_send m K c k hk 0 j hi (n := yn c) rfl (src := (rsM (slot j)).squeeze S512x512 squeezes_S1x512x512_S512x512) (dst := rvM j) hS hR rfl
    (q := fullShare) (X := rsV m c j) (G := extra c j)
    (hsq.1.trans (owns_any c (rsM (slot j)) _))
    (by
      show _ ⊢ iprop(owns ((yn c : Dev nD) : Thread nD τ) (rvM j) fullShare (rsV m (yn (yn c)) j) ∗ if j = 0 then anyOf (F := F) (dg (yn c)) (oM (yn c) 3) else iprop(emp))
      rw [yn_yn, dg_yn]
      exact BI.Entails.refl _)) $$ [HO HT HS HD HG]
  · isplitl [HO]; · iexact HO
    isplitl [HT]; · iexact HT
    isplitl [HS]; · iexact HS
    isplitl [HD]; · iexact HD
    iexact HG
  iexact Hk

/-- A finished piece passed on as it stands. -/
theorem step_sendO (k : ℕ) (s j : Fin 4) (q : Fin 4) (sh : PosShare TreeShare) (hk : k < 18) (hi : (items c)[k]'hk = (tgt c s j, rcv s j))
    {n : Dev nD} (hn : n = tgt c s j) {off' : Fin S2048x2048.rank → ℕ} {p' : ∀ a, off' a + S512x512.size a ≤ S2048x2048.size a}
    (ho : off' = ![512 * q.val, 512 * j.val]) {sS sR : DmaSem sig} (hS : csem (snd s j) = .dma sS) (hR : csem (rcv s j) = .dma sR)
    (h₁ : outP m c q j sh ⊢ sndPay m c s j) (h₂ : outP m (tgt c s j) q j fullShare ⊢ rcvPay m (tgt c s j) s j)
    {hsc : (oA.slice (Rect.unit (s := S2048x2048) off' S512x512.size p') (fun _ => rfl) : Memref sig (n : Thread nD τ).2.kind .vmem S512x512 .bf16).view.ref.isScScratch = false}
    {hsrc hdst : (oA.slice (Rect.unit (s := S2048x2048) off' S512x512.size p') (fun _ => rfl)).view.WordExact}
    {hsem : DmaTarget.Typed .vmem (.dma sR) (.remote (n : Thread nD τ)
      (oA.slice (Rect.unit (s := S2048x2048) off' S512x512.size p') (fun _ => rfl) : Memref sig (n : Thread nD τ).2.kind .vmem S512x512 .bf16) (.dma sS) hsc)} :
    iprop(Ows m K c k ∗ Tok c s j ∗ outP m c q j sh ∗ anyOf (F := F) (tgt c s j) (oM q j))
      ⊢ iprop((iprop(Ows m K c (k + 1) ∗ Due c (snd s j) NB) -∗ runs c (kk ⟨⟩) Q)
        -∗ runs c (.op (.enqueueDma (oA.slice (Rect.unit (s := S2048x2048) off' S512x512.size p') (fun _ => rfl))
            (.remote (n : Thread nD τ) (oA.slice (Rect.unit (s := S2048x2048) off' S512x512.size p') (fun _ => rfl) : Memref sig (n : Thread nD τ).2.kind .vmem S512x512 .bf16)
              (.dma sS) hsc) (.dma sR) hsrc hdst hsem) kk) Q) := by
  subst hn ho
  iintro ⟨HO, HT, HS, HD⟩ Hk
  iapply (step_send m K c k hk s j hi (n := tgt c s j) rfl (src := oM q j) (dst := oM q j) hS hR rfl
    (q := sh) (X := sumV m q j) (G := iprop(emp)) h₁
    (BI.Entails.trans (show _ ⊢ (_ : sProp 𝕄) from by iintro ⟨H, -⟩; iexact H) h₂)) $$ [HO HT HS HD]
  · isplitl [HO]; · iexact HO
    isplitl [HT]; · iexact HT
    isplitl [HS]; · iexact HS
    isplitl [HD]; · iexact HD
    iempintro
  iexact Hk

/-! ## What each stage's transfers hand over -/

theorem srcX (j : Fin 4) : outP m c c j fullShare.left ⊢ sndPay m c 1 j := BI.Entails.refl _
theorem dstX (j : Fin 4) : outP m (tgt c 1 j) c j fullShare ⊢ rcvPay m (tgt c 1 j) 1 j := by
  show outP m (xn c) c j fullShare ⊢ outP m (xn c) (xn (xn c)) j fullShare
  rw [xn_xn]
theorem srcY (j : Fin 4) : outP m c c j (qY j) ⊢ sndPay m c 2 j := BI.Entails.refl _
theorem dstY (j : Fin 4) : outP m (tgt c 2 j) c j fullShare ⊢ rcvPay m (tgt c 2 j) 2 j := by
  show outP m (yn c) c j fullShare ⊢ outP m (yn c) (yn (yn c)) j fullShare
  rw [yn_yn]
theorem tgtD {j : Fin 4} (hj : j ≠ 3) : tgt c 3 j = xn c := by
  unfold tgt; rw [if_neg (by decide), if_neg fun h => hj h.2]
theorem srcD {j : Fin 4} (hj : j ≠ 3) : outP m c (yn c) j fullShare ⊢ sndPay m c 3 j := by
  unfold sndPay; rw [if_neg (by decide), if_neg (by decide), if_neg (by decide), if_neg hj]
theorem dstD {j : Fin 4} (hj : j ≠ 3) : outP m (tgt c 3 j) (yn c) j fullShare ⊢ rcvPay m (tgt c 3 j) 3 j := by
  rw [tgtD c hj]
  show outP m (xn c) (yn c) j fullShare ⊢ outP m (xn c) (dg (xn c)) j fullShare
  rw [dg_xn]
theorem srcE : outP m c c 3 fullShare.right.right ⊢ sndPay m c 3 3 := BI.Entails.refl _
theorem dstE : outP m (tgt c 3 3) c 3 fullShare ⊢ rcvPay m (tgt c 3 3) 3 3 := by
  show outP m (dg c) c 3 fullShare ⊢ outP m (dg c) (dg (dg c)) 3 fullShare
  rw [dg_dg]

/-! ## The payloads, as the waits' continuations want them -/

theorem backR {j : Fin 4} (s : Fin 2) (h : slot j = s) : pay m c (snd 0 j) false ⊢ anyOf (F := F) c (rsM s) := by
  subst h; exact BI.Entails.refl _
theorem comeR0 : pay m c (rcv 0 0) false ⊢ iprop(owns (c : Thread nD τ) (rvM 0) fullShare (rsV m (yn c) 0) ∗ anyOf (F := F) (dg c) (oM c 3)) :=
  BI.Entails.refl _
theorem comeR {j : Fin 4} (h : j ≠ 0) : pay m c (rcv 0 j) false ⊢ owns (c : Thread nD τ) (rvM j) fullShare (rsV m (yn c) j) := by
  show iprop(owns (c : Thread nD τ) (rvM j) fullShare (rsV m (yn c) j) ∗ if j = 0 then anyOf (F := F) (dg c) (oM c 3) else iprop(emp)) ⊢ _
  rw [if_neg h]
  exact (show _ ⊢ (_ : sProp 𝕄) from by iintro ⟨H, -⟩; iexact H)
theorem backX (j : Fin 4) : pay m c (snd 1 j) false ⊢ outP m c c j fullShare.left := BI.Entails.refl _
theorem comeX (j : Fin 4) : pay m c (rcv 1 j) false ⊢ outP m c (xn c) j fullShare := BI.Entails.refl _
theorem backY (j : Fin 4) : pay m c (snd 2 j) false ⊢ outP m c c j (qY j) := BI.Entails.refl _
theorem comeY (j : Fin 4) : pay m c (rcv 2 j) false ⊢ outP m c (yn c) j fullShare := BI.Entails.refl _
theorem backD {j : Fin 4} (hj : j ≠ 3) : pay m c (snd 3 j) false ⊢ outP m c (yn c) j fullShare := by
  show sndPay m c 3 j ⊢ _
  unfold sndPay; rw [if_neg (by decide), if_neg (by decide), if_neg (by decide), if_neg hj]
theorem backE : pay m c (snd 3 3) false ⊢ outP m c c 3 fullShare.right.right := BI.Entails.refl _
theorem comeD (j : Fin 4) : pay m c (rcv 3 j) false ⊢ outP m c (dg c) j fullShare := BI.Entails.refl _
/-- What the neighbours are handed at the barrier, as it is held. -/
theorem giveX : barX (F := F) (xn c) ⊢ pay m (xn c) none false := BI.Entails.refl _
theorem giveY : barY (F := F) (yn c) ⊢ pay m (yn c) none true := BI.Entails.refl _

/-- The wait on a shared cell, its payload as it is wanted. -/
theorem step_got (k : ℕ) (x : Bool × Fin 4 × Fin 4) (hr : room k (lvl (some x))) {sem : DmaSem sig} (hs : csem (some x) = .dma sem)
    {P : sProp 𝕄} (hP : pay m c (some x) false ⊢ P)
    {sp sp' : Space} {s s' : Shape} {e e' : EltTy} {κ' : Kind} {srcw : Memref sig .tc sp' s' e'} {dstw : Memref sig κ' sp s e}
    {hsrc : srcw.view.WordExact} {hdst : dstw.view.WordExact} (hN : dstw.view.dmaCredit = NB) :
    iprop(Ows m K c k ∗ Due c (some x) NB)
      ⊢ iprop((iprop(Ows m K c k ∗ P ∗ Shut c (some x)) -∗ runs c (kk ⟨⟩) Q)
        -∗ runs c (.op (.waitDma2 sem srcw dstw hsrc hdst) kk) Q) := by
  iintro ⟨HO, HD⟩ Hk
  iapply (step_wait m K c k x hr hs hN) $$ [HO HD]
  · isplitl [HO]; · iexact HO
    iexact HD
  iintro ⟨HO, HP, HS⟩
  iapply Hk
  isplitl [HO]; · iexact HO
  isplitl [HP]; · iapply hP; iexact HP
  iexact HS

end Stages

end Cert.Fused
end
-- ==== Proof.Groups.lean ====
module

public import proofs.«01_k».proof.Proof.Moves

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {α : Type} {Q : α → sProp (MT nD τ sig Unit (Elt F) ℕ UU ℕ)} {kk : PUnit → Prog (TpuEff nD τ sig (Elt F) Λ₀ .tc) α}

/-- A part of the body at the buffers it is launched with. -/
abbrev onBufs {β : Type 1}
    (f : ∀ (arg0 : Memref sig .tc .hbm S2048x8192 .f32) (_ : arg0.IsWhole) (arg1 : Memref sig .tc .hbm S2048x8192 .f32) (_ : arg1.IsWhole)
      (arg2 : Memref sig .tc .vmem S2048x2048 .bf16) (_ : arg2.IsWhole) (arg3 : Memref sig .tc .vmem S1024x8192 .bf16) (_ : arg3.IsWhole)
      (arg4 : Memref sig .tc .vmem S2x1024x1024 .f32) (_ : arg4.IsWhole) (arg5 : Memref sig .tc .vmem S2x512x2048 .f32) (_ : arg5.IsWhole)
      (arg6 : Memref sig .tc .vmem S2x1024x512 .f32) (_ : arg6.IsWhole) (arg7 : Memref sig .tc .vmem S2x512x512 .bf16) (_ : arg7.IsWhole)
      (arg8 : Memref sig .tc .vmem S512x2048 .bf16) (_ : arg8.IsWhole), DmaSems sig S4 → DmaSems sig S4x4 → DmaSems sig S4x4 → β) : β :=
  f hA (Memref.isWhole_whole _) hW (Memref.isWhole_whole _) oA (Memref.isWhole_whole _) aA (Memref.isWhole_whole _) asA (Memref.isWhole_whole _)
    wsA (Memref.isWhole_whole _) acA (Memref.isWhole_whole _) rsA (Memref.isWhole_whole _) rvA (Memref.isWhole_whole _) cc0_scratch6 cc0_scratch7 cc0_scratch8

/-- A finished part. -/
theorem step_ret (c : Dev nD) {α : Type} (a : α) {Q : α → sProp 𝕄} : Q a ⊢ runs c (.ret a) Q := by
  unfold runs; rw [wp_ret]; exact fupd_intro

/-! ## Steps that always come together -/

section Runs
variable (m : Mem F) (K : Dev nD × Cell → ℕ) (c : Dev nD) {α : Type} {Q : α → sProp (MT nD τ sig Unit (Elt F) ℕ UU ℕ)}
  {kk : PUnit → Prog (TpuEff nD τ sig (Elt F) Λ₀ .tc) α}

/-- A fetched piece of the first argument is waited for, rounded and put in its place. -/
theorem step_take (k : ℕ) (s : Fin 2) (g : Fin 8) {sem : DmaSem sig} (hsem : sem = saS s)
    {sp sp' : Space} {sh s' : Shape} {e e' : EltTy} {κ' : Kind} {srcw : Memref sig .tc sp' s' e'} {dstw : Memref sig κ' sp sh e}
    {hsrc : srcw.view.WordExact} {hdst : dstw.view.WordExact} (hN : dstw.view.dmaCredit = NA)
    {hl : asA.view.LoadsAt (asR s).toLoadRect} {hl' : aA.view.LoadsAt (abR g).toLoadRect}
    {f : (S1x1024x1024.Idx → Elt F .f32) → S1024x1024.Idx → Elt F .bf16} (hf : f = k0_pay1)
    {hx : (aA.access (abR g)).Stores Finset.univ} {hm : (Finset.univ : Finset (abR g).shape.Idx) = Finset.univ ∨ ∀ a, (abR g).stride a = 1} :
    iprop(Ows m K c k ∗ AFly m c s g ∗ AB m c g.val)
      ⊢ iprop((iprop(Ows m K c k ∗ AIdle m c s ∗ AB m c (g.val + 1)) -∗ runs c (kk ⟨⟩) Q)
        -∗ runs c (.op (.waitDma2 sem srcw dstw hsrc hdst) fun _ => .op (.load asA (asR s).toLoadRect hl) fun x =>
            .op (.load aA (abR g).toLoadRect hl') fun _ => .op (.store aA (abR g) (f x) Finset.univ hx hm) kk) Q) := by
  subst hf
  iintro ⟨HO, HS, HB⟩ Hk
  iapply (step_landA m K c k s g hsem hN) $$ [$HO $HS]
  iintro ⟨HO, HS⟩
  iapply (step_loadA m c s g) $$ [$HS]
  iintro HS
  iapply (step_loadAB m c g.val) $$ [$HB]
  iintro %v HB
  iapply (step_storeAB m c g rfl) $$ [$HB]
  iintro HB
  iapply Hk $$ [$HO $HS $HB]

/-- A fetched piece of the second argument is waited for and loaded, and the columns it meets. -/
theorem step_pair (k : ℕ) (s : Fin 2) (g : Fin 16) (n : ℕ) (b : Fin 4) (hn : 2 * (b.val + 1) ≤ n) {sem : DmaSem sig} (hsem : sem = swS s)
    {sp sp' : Space} {sh s' : Shape} {e e' : EltTy} {κ' : Kind} {srcw : Memref sig .tc sp' s' e'} {dstw : Memref sig κ' sp sh e}
    {hsrc : srcw.view.WordExact} {hdst : dstw.view.WordExact} (hN : dstw.view.dmaCredit = NW)
    {hl : aA.view.LoadsAt (akR b).toLoadRect} {hl' : wsA.view.LoadsAt (wsR s).toLoadRect}
    {kx : (S1024x2048.Idx → Elt F .bf16) → (S1x512x2048.Idx → Elt F .f32) → Prog (TpuEff nD τ sig (Elt F) Λ₀ .tc) α} :
    iprop(Ows m K c k ∗ WFly m c s g ∗ AB m c n)
      ⊢ iprop((iprop(Ows m K c k ∗ WIdle m c s ∗ AB m c n) -∗ runs c (kx (aK m c b) (wT m c g)) Q)
        -∗ runs c (.op (.waitDma2 sem srcw dstw hsrc hdst) fun _ => .op (.load aA (akR b).toLoadRect hl) fun x =>
            .op (.load wsA (wsR s).toLoadRect hl') fun y => kx x y) Q) := by
  iintro ⟨HO, HS, HB⟩ Hk
  iapply (step_landW m K c k s g hsem hN) $$ [$HO $HS]
  iintro ⟨HO, HS⟩
  iapply (step_loadK m c n b hn) $$ [$HB]
  iintro HB
  iapply (step_loadW m c s g) $$ [$HS]
  iintro HS
  iapply Hk $$ [$HO $HS $HB]

/-- The same, and the product is added to an accumulator. -/
theorem step_accum (k : ℕ) (s i : Fin 2) (g : Fin 16) (n : ℕ) (b : Fin 4) (hn : 2 * (b.val + 1) ≤ n) {sem : DmaSem sig} (hsem : sem = swS s)
    {sp sp' : Space} {sh s' : Shape} {e e' : EltTy} {κ' : Kind} {srcw : Memref sig .tc sp' s' e'} {dstw : Memref sig κ' sp sh e}
    {hsrc : srcw.view.WordExact} {hdst : dstw.view.WordExact} (hN : dstw.view.dmaCredit = NW)
    {hl : aA.view.LoadsAt (akR b).toLoadRect} {hl' : wsA.view.LoadsAt (wsR s).toLoadRect} {hl₁ hl₂ : acA.view.LoadsAt (acR i).toLoadRect}
    {f : (S1024x2048.Idx → Elt F .bf16) → (S1x512x2048.Idx → Elt F .f32) → (S1x1024x512.Idx → Elt F .f32) → S1x1024x512.Idx → Elt F .f32}
    {X Y : S1x1024x512.Idx → Elt F .f32} (hf : f = k0_pay11) (hY : k0_pay11 (aK m c b) (wT m c g) X = Y)
    {hx : (acA.access (acR i)).Stores Finset.univ} {hm : (Finset.univ : Finset (acR i).shape.Idx) = Finset.univ ∨ ∀ a, (acR i).stride a = 1} :
    iprop(Ows m K c k ∗ WFly m c s g ∗ AB m c n ∗ owns (c : Thread nD τ) (acM i) fullShare X)
      ⊢ iprop((iprop(Ows m K c k ∗ WIdle m c s ∗ AB m c n ∗ owns (c : Thread nD τ) (acM i) fullShare Y) -∗ runs c (kk ⟨⟩) Q)
        -∗ runs c (.op (.waitDma2 sem srcw dstw hsrc hdst) fun _ => .op (.load aA (akR b).toLoadRect hl) fun x =>
            .op (.load wsA (wsR s).toLoadRect hl') fun y => .op (.load acA (acR i).toLoadRect hl₁) fun z =>
              .op (.load acA (acR i).toLoadRect hl₂) fun _ => .op (.store acA (acR i) (f x y z) Finset.univ hx hm) kk) Q) := by
  subst hf hY
  iintro ⟨HO, HS, HB, HC⟩ Hk
  iapply (step_pair m K c k s g n b hn hsem hN) $$ [$HO $HS $HB]
  iintro ⟨HO, HS, HB⟩
  iapply (step_loadC c i) $$ [$HC]
  iintro HC
  iapply (step_loadC c i) $$ [$HC]
  iintro HC
  iapply (step_storeC c i) $$ [$HC]
  iintro HC
  iapply Hk $$ [$HO $HS $HB $HC]

/-- The half the neighbour in the row wants is rounded into a slot. -/
theorem step_half (s : Fin 2) (j : Fin 4) {off' : Fin S2x1024x512.rank → ℕ} {p' : ∀ a, off' a + S1x512x512.size a ≤ S2x1024x512.size a}
    (ho : off' = ![s.val, 512 * (otherHalf c).val, 0])
    {hl : acA.view.LoadsAt (Rect.unit (s := S2x1024x512) off' S1x512x512.size p').toLoadRect} {hl' : rsA.view.LoadsAt (rsR s).toLoadRect}
    {f : (S1x512x512.Idx → Elt F .f32) → S1x512x512.Idx → Elt F .bf16} (hf : f = k0_pay15)
    {hx : (rsA.access (rsR s)).Stores Finset.univ} {hm : (Finset.univ : Finset (rsR s).shape.Idx) = Finset.univ ∨ ∀ a, (rsR s).stride a = 1} :
    iprop(owns (c : Thread nD τ) (acM s) fullShare (acc3 m c j) ∗ anyOf (F := F) c (rsM s))
      ⊢ iprop((iprop(owns (c : Thread nD τ) (acM s) fullShare (acc3 m c j) ∗ owns (c : Thread nD τ) (rsM s) fullShare (rsS m c j)) -∗ runs c (kk ⟨⟩) Q)
        -∗ runs c (.op (.load acA (Rect.unit (s := S2x1024x512) off' S1x512x512.size p').toLoadRect hl) fun x =>
            .op (.load rsA (rsR s).toLoadRect hl') fun _ => .op (.store rsA (rsR s) (f x) Finset.univ hx hm) kk) Q) := by
  subst hf
  unfold anyOf
  iintro ⟨HC, ⟨%W, HS⟩⟩ Hk
  iapply (step_loadH c s (otherHalf c) ho) $$ [$HC]
  iintro HC
  iapply (step_loadRs c s) $$ [$HS]
  iintro HS
  iapply (step_storeRs c s (w := rsS m c j)) $$ [$HS]
  iintro HS
  iapply Hk $$ [$HC $HS]

/-- A device's own half and the one received are added and rounded into its piece of the result. -/
theorem step_finish (s : Fin 2) (j : Fin 4) {off' : Fin S2x1024x512.rank → ℕ} {p' : ∀ a, off' a + S1x512x512.size a ≤ S2x1024x512.size a}
    (ho : off' = ![s.val, 512 * (half c).val, 0]) {oo oo' : Fin S2048x2048.rank → ℕ}
    {po : ∀ a, oo a + S512x512.size a ≤ S2048x2048.size a} {po' : ∀ a, oo' a + S512x512.size a ≤ S2048x2048.size a}
    (hoo : oo = ![512 * c.val, 512 * j.val]) (hoo' : oo' = ![512 * c.val, 512 * j.val])
    {hl : acA.view.LoadsAt (Rect.unit (s := S2x1024x512) off' S1x512x512.size p').toLoadRect} {hl' : rvA.view.LoadsAt (rvR j).toLoadRect}
    {hl₂ : oA.view.LoadsAt (Rect.unit (s := S2048x2048) oo S512x512.size po).toLoadRect}
    {f : (S1x512x512.Idx → Elt F .f32) → (S512x512.Idx → Elt F .bf16) → S512x512.Idx → Elt F .bf16} (hf : f = k0_pay22)
    {hx : (oA.access (Rect.unit (s := S2048x2048) oo' S512x512.size po')).Stores Finset.univ}
    {hm : (Finset.univ : Finset (Rect.unit (s := S2048x2048) oo' S512x512.size po').shape.Idx) = Finset.univ
      ∨ ∀ a, (Rect.unit (s := S2048x2048) oo' S512x512.size po').stride a = 1} :
    iprop(owns (c : Thread nD τ) (acM s) fullShare (acc3 m c j) ∗ owns (c : Thread nD τ) (rvM j) fullShare (rsV m (yn c) j)
        ∗ anyOf (F := F) c (oM c j))
      ⊢ iprop((iprop(owns (c : Thread nD τ) (acM s) fullShare (acc3 m c j) ∗ owns (c : Thread nD τ) (rvM j) fullShare (rsV m (yn c) j)
            ∗ outP m c c j fullShare) -∗ runs c (kk ⟨⟩) Q)
        -∗ runs c (.op (.load acA (Rect.unit (s := S2x1024x512) off' S1x512x512.size p').toLoadRect hl) fun x =>
            .op (.load rvA (rvR j).toLoadRect hl') fun y => .op (.load oA (Rect.unit (s := S2048x2048) oo S512x512.size po).toLoadRect hl₂) fun _ =>
              .op (.store oA (Rect.unit (s := S2048x2048) oo' S512x512.size po') (f x y) Finset.univ hx hm) kk) Q) := by
  subst hf
  unfold anyOf
  iintro ⟨HC, HV, ⟨%X, HP⟩⟩ Hk
  iapply (step_loadH c s (half c) ho) $$ [$HC]
  iintro HC
  iapply (step_loadRv c j) $$ [$HV]
  iintro HV
  iapply (step_loadO c c j hoo) $$ [$HP]
  iintro HP
  iapply (step_storeO c c j hoo' (w := sumV m c j)) $$ [$HP]
  iintro HP
  iapply Hk $$ [$HC $HV $HP]

end Runs

/-! ## The buffers' pieces by short names -/

/-- An accumulator, a half to be sent, a received half, at given contents. -/
abbrev atC (c : Dev nD) (s : Fin 2) (X : S1x1024x512.Idx → Elt F .f32) : sProp 𝕄 := owns (c : Thread nD τ) (acM s) fullShare X
abbrev atS (c : Dev nD) (s : Fin 2) (X : S1x512x512.Idx → Elt F .bf16) : sProp 𝕄 := owns (c : Thread nD τ) (rsM s) fullShare X
abbrev atV (c : Dev nD) (j : Fin 4) (X : S512x512.Idx → Elt F .bf16) : sProp 𝕄 := owns (c : Thread nD τ) (rvM j) fullShare X

/-- The devices that the body names. -/
theorem dev_xn (c : Dev nD) {n : ℕ} (h : n < nD) (e : n = ((c.val % 2) + 2) - 2 * (c.val / 2)) : (⟨n, h⟩ : Dev nD) = xn c := Fin.ext e
theorem dev_yn (c : Dev nD) {n : ℕ} (h : n < nD) (e : n = (2 * (c.val / 2) + 1) - (c.val % 2)) : (⟨n, h⟩ : Dev nD) = yn c := Fin.ext e
theorem dev_dg (c : Dev nD) {n : ℕ} (h : n < nD) (e : n = 3 - (2 * (c.val / 2) + (c.val % 2))) : (⟨n, h⟩ : Dev nD) = dg c := Fin.ext e

/-- Shares of a finished piece for its transfers. -/
theorem shares (m : Mem F) (c : Dev nD) (j : Fin 4) (hj : j ≠ 3) : outP m c c j fullShare ⊢ iprop(outP m c c j fullShare.left ∗ outP m c c j (qY j)) := by
  unfold qY; rw [if_neg hj]
  exact (owns_halves (c : Thread nD τ) (oM c j) fullShare (sumV m c j)).1

end Cert.Fused
end
-- ==== Proof.PartsA.lean ====
/-
  The body part by part, each part from what it needs to what it leaves: the first column blocks.
-/
module

public import proofs.«01_k».proof.Proof.Groups

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {α : Type} {Q : α → sProp (MT nD τ sig Unit (Elt F) ℕ UU ℕ)} {kk : PUnit → Prog (TpuEff nD τ sig (Elt F) Λ₀ .tc) α}

section Parts
variable (m : Mem F) (K : Dev nD × Cell → ℕ) (c : Dev nD)

/-- The handshake: each neighbour is told what it may write here. -/
theorem part1 {Q : (Σ' (d0 : Dev nD) (v2 : BitVec 32) (v5 : BitVec 32) (v6 : BitVec 32) (v7 : BitVec 32) (v9 : Sems sig S_) (v18 : BitVec 32) (v20 : BitVec 32), BitVec 32) → sProp 𝕄} :
    iprop(Ows m K c 0 ∗ dutyTok ER (kcell (xn c, none)) 0 false ∗ dutyTok ER (kcell (yn c, none)) 0 true ∗ barX (F := F) (xn c) ∗ barY (F := F) (yn c))
      ⊢ iprop((Ows m K c 2 -∗ ∀ v2, ∀ v5, ∀ v6, ∀ v7, ∀ v18, ∀ v20, ∀ v23, Q ⟨c, v2, v5, v6, v7, SemArray.scalar (sig.barrier 0 rfl), v18, v20, v23⟩)
        -∗ runs c (onBufs k0_part1) Q) := by
  simp only [onBufs, k0_part1_eq_skeleton]
  unfold k0_part1_skel
  simp only [semSignalWord, Prog.lift, Prog.bind_op, Prog.bind_ret, Prog.pure_eq_ret, wp_deviceId]
  iintro ⟨HO, TX, TY, HX, HY⟩ Hk
  iapply (step_signal m K c 0 (by decide) (xn c) _ false (dev_xn c _ (k0_dev1_eq c)) rfl rfl) $$ [$HO $TX HX]
  · iapply (giveX m c); iexact HX
  iintro HO
  iapply (step_signal m K c 1 (by decide) (yn c) _ true (dev_yn c _ (k0_dev2_eq c)) rfl rfl) $$ [$HO $TY HY]
  · iapply (giveY m c); iexact HY
  iintro HO
  iapply step_ret
  iapply Hk $$ [$HO]

/-- The first pieces are fetched, the first taken. -/
theorem part2 {Q : PUnit → sProp 𝕄} :
    iprop(Ows m K c 2 ∗ AIdle m c 0 ∗ AIdle m c 1 ∗ WIdle m c 0 ∗ AB m c 0)
      ⊢ iprop((iprop(Ows m K c 2 ∗ AIdle m c 0 ∗ AFly m c 1 1 ∗ WFly m c 0 0 ∗ AB m c 1) -∗ Q ⟨⟩) -∗ runs c (onBufs k0_part2 c) Q) := by
  simp only [onBufs, k0_part2_eq_skeleton]
  unfold k0_part2_skel
  simp only [Prog.lift, Prog.bind_op, Prog.bind_ret, Prog.pure_eq_ret]
  iintro ⟨HO, A0, A1, W0, HB⟩ Hk
  iapply (step_fetchA m c 0 0 (k0_off1_eq c) rfl) $$ [$A0]
  iintro A0
  iapply (step_fetchW m c 0 0 rfl rfl) $$ [$W0]
  iintro W0
  iapply (step_fetchA m c 1 1 (k0_off2_eq c) rfl) $$ [$A1]
  iintro A1
  iapply (step_take m K c 2 0 0 rfl (NA_eq 0) rfl) $$ [$HO $A0 $HB]
  iintro ⟨HO, A0, HB⟩
  iapply step_ret
  iapply Hk $$ [$HO $A0 $A1 $W0 $HB]

/-- The second piece is taken; the first product. -/
theorem part3 {Q : FVec F S1024x512 .f32 → sProp 𝕄} :
    iprop(Ows m K c 2 ∗ AIdle m c 0 ∗ AFly m c 1 1 ∗ WFly m c 0 0 ∗ WIdle m c 1 ∗ AB m c 1)
      ⊢ iprop((iprop(Ows m K c 2 ∗ AFly m c 0 2 ∗ AIdle m c 1 ∗ WIdle m c 0 ∗ WFly m c 1 1 ∗ AB m c 2) -∗ Q (k0_pay3 (aK m c 0) (wT m c 0)))
        -∗ runs c (onBufs k0_part3 c) Q) := by
  simp only [onBufs, k0_part3_eq_skeleton]
  unfold k0_part3_skel
  simp only [Prog.lift, Prog.bind_op, Prog.bind_ret, Prog.pure_eq_ret]
  iintro ⟨HO, A0, A1, W0, W1, HB⟩ Hk
  iapply (step_fetchA m c 0 2 (k0_off3_eq c) rfl) $$ [$A0]
  iintro A0
  iapply (step_take m K c 2 1 1 rfl (NA_eq 1) rfl) $$ [$HO $A1 $HB]
  iintro ⟨HO, A1, HB⟩
  iapply (step_fetchW m c 1 1 rfl rfl) $$ [$W1]
  iintro W1
  iapply (step_pair m K c 2 0 0 2 0 (by decide) rfl (NW_eq 0)) $$ [$HO $W0 $HB]
  iintro ⟨HO, W0, HB⟩
  iapply step_ret
  iapply Hk $$ [$HO $A0 $A1 $W0 $W1 $HB]

/-- The first product is stored; the third piece is taken. -/
theorem part4 {X : S1x1024x512.Idx → Elt F .f32} {Q : PUnit → sProp 𝕄} :
    iprop(Ows m K c 2 ∗ AFly m c 0 2 ∗ AIdle m c 1 ∗ AB m c 2 ∗ atC c 0 X)
      ⊢ iprop((iprop(Ows m K c 2 ∗ AFly m c 0 4 ∗ AFly m c 1 3 ∗ AB m c 3 ∗ atC c 0 (acc0 m c 0)) -∗ Q ⟨⟩)
        -∗ runs c (onBufs k0_part4 c (k0_pay3 (aK m c 0) (wT m c 0))) Q) := by
  simp only [onBufs, k0_part4_eq_skeleton]
  unfold k0_part4_skel
  simp only [Prog.lift, Prog.bind_op, Prog.bind_ret, Prog.pure_eq_ret]
  iintro ⟨HO, A0, A1, HB, HC⟩ Hk
  iapply (step_loadC c 0) $$ [$HC]
  iintro HC
  iapply (step_storeC c 0 (w := acc0 m c 0)) $$ [$HC]
  iintro HC
  iapply (step_fetchA m c 1 3 (k0_off4_eq c) rfl) $$ [$A1]
  iintro A1
  iapply (step_take m K c 2 0 2 rfl (NA_eq 0) rfl) $$ [$HO $A0 $HB]
  iintro ⟨HO, A0, HB⟩
  iapply (step_fetchA m c 0 4 (k0_off5_eq c) rfl) $$ [$A0]
  iintro A0
  iapply step_ret
  iapply Hk $$ [$HO $A0 $A1 $HB $HC]

/-- The fourth piece is taken; the second product. -/
theorem part5 {Q : (Σ' (v137 : FVec F S1024x512 .f32), Vec F S1x1024x512 .f32) → sProp 𝕄} :
    iprop(Ows m K c 2 ∗ AFly m c 1 3 ∗ WIdle m c 0 ∗ WFly m c 1 1 ∗ AB m c 3 ∗ atC c 0 (acc0 m c 0))
      ⊢ iprop((iprop(Ows m K c 2 ∗ AIdle m c 1 ∗ WFly m c 0 2 ∗ WIdle m c 1 ∗ AB m c 4 ∗ atC c 0 (acc0 m c 0))
          -∗ Q ⟨k0_pay7 (aK m c 1) (wT m c 1) (acc0 m c 0), acc0 m c 0⟩)
        -∗ runs c (onBufs k0_part5 c) Q) := by
  simp only [onBufs, k0_part5_eq_skeleton]
  unfold k0_part5_skel
  simp only [Prog.lift, Prog.bind_op, Prog.bind_ret, Prog.pure_eq_ret]
  iintro ⟨HO, A1, W0, W1, HB, HC⟩ Hk
  iapply (step_take m K c 2 1 3 rfl (NA_eq 1) rfl) $$ [$HO $A1 $HB]
  iintro ⟨HO, A1, HB⟩
  iapply (step_fetchW m c 0 2 rfl rfl) $$ [$W0]
  iintro W0
  iapply (step_pair m K c 2 1 1 4 1 (by decide) rfl (NW_eq 1)) $$ [$HO $W1 $HB]
  iintro ⟨HO, W1, HB⟩
  iapply (step_loadC c 0) $$ [$HC]
  iintro HC
  iapply (step_loadC c 0) $$ [$HC]
  iintro HC
  iapply step_ret
  iapply Hk $$ [$HO $A1 $W0 $W1 $HB $HC]

/-- The second sum is stored; the fifth piece is taken, the sixth awaited. -/
theorem part6 {X v : S1x1024x512.Idx → Elt F .f32} {Q : PUnit → sProp 𝕄} :
    iprop(Ows m K c 2 ∗ AFly m c 0 4 ∗ AIdle m c 1 ∗ AB m c 4 ∗ atC c 0 X)
      ⊢ iprop((iprop(Ows m K c 2 ∗ AFly m c 0 6 ∗ AHave m c 1 5 ∗ AB m c 5 ∗ atC c 0 (acc1 m c 0)) -∗ Q ⟨⟩)
        -∗ runs c (onBufs k0_part6 c (k0_pay7 (aK m c 1) (wT m c 1) (acc0 m c 0)) v) Q) := by
  simp only [onBufs, k0_part6_eq_skeleton]
  unfold k0_part6_skel
  simp only [Prog.lift, Prog.bind_op, Prog.bind_ret, Prog.pure_eq_ret]
  iintro ⟨HO, A0, A1, HB, HC⟩ Hk
  iapply (step_storeC c 0 (w := acc1 m c 0)) $$ [$HC]
  iintro HC
  iapply (step_fetchA m c 1 5 (k0_off6_eq c) rfl) $$ [$A1]
  iintro A1
  iapply (step_take m K c 2 0 4 rfl (NA_eq 0) rfl) $$ [$HO $A0 $HB]
  iintro ⟨HO, A0, HB⟩
  iapply (step_fetchA m c 0 6 (k0_off7_eq c) rfl) $$ [$A0]
  iintro A0
  iapply (step_landA m K c 2 1 5 rfl (NA_eq 1)) $$ [$HO $A1]
  iintro ⟨HO, A1⟩
  iapply step_ret
  iapply Hk $$ [$HO $A0 $A1 $HB $HC]

/-- The sixth piece is taken; the third sum. -/
theorem part7 {Q : PUnit → sProp 𝕄} :
    iprop(Ows m K c 2 ∗ AHave m c 1 5 ∗ WFly m c 0 2 ∗ WIdle m c 1 ∗ AB m c 5 ∗ atC c 0 (acc1 m c 0))
      ⊢ iprop((iprop(Ows m K c 2 ∗ AIdle m c 1 ∗ WIdle m c 0 ∗ WFly m c 1 3 ∗ AB m c 6 ∗ atC c 0 (acc2 m c 0)) -∗ Q ⟨⟩)
        -∗ runs c (onBufs k0_part7) Q) := by
  simp only [onBufs, k0_part7_eq_skeleton]
  unfold k0_part7_skel
  simp only [Prog.lift, Prog.bind_op, Prog.bind_ret, Prog.pure_eq_ret]
  iintro ⟨HO, A1, W0, W1, HB, HC⟩ Hk
  iapply (step_loadA m c 1 5) $$ [$A1]
  iintro A1
  iapply (step_loadAB m c 5) $$ [$HB]
  iintro %v HB
  iapply (step_storeAB m c 5 rfl) $$ [$HB]
  iintro HB
  iapply (step_fetchW m c 1 3 rfl rfl) $$ [$W1]
  iintro W1
  iapply (step_accum m K c 2 0 0 2 6 2 (by decide) rfl (NW_eq 0) (Y := acc2 m c 0) rfl rfl) $$ [$HO $W0 $HB $HC]
  iintro ⟨HO, W0, HB, HC⟩
  iapply step_ret
  iapply Hk $$ [$HO $A1 $W0 $W1 $HB $HC]

/-- The last two pieces of the first argument are taken. -/
theorem part8 {Q : PUnit → sProp 𝕄} :
    iprop(Ows m K c 2 ∗ AFly m c 0 6 ∗ AIdle m c 1 ∗ AB m c 6)
      ⊢ iprop((iprop(Ows m K c 2 ∗ AIdle m c 0 ∗ AIdle m c 1 ∗ AB m c 8) -∗ Q ⟨⟩) -∗ runs c (onBufs k0_part8 c) Q) := by
  simp only [onBufs, k0_part8_eq_skeleton]
  unfold k0_part8_skel
  simp only [Prog.lift, Prog.bind_op, Prog.bind_ret, Prog.pure_eq_ret]
  iintro ⟨HO, A0, A1, HB⟩ Hk
  iapply (step_fetchA m c 1 7 (k0_off8_eq c) rfl) $$ [$A1]
  iintro A1
  iapply (step_take m K c 2 0 6 rfl (NA_eq 0) rfl) $$ [$HO $A0 $HB]
  iintro ⟨HO, A0, HB⟩
  iapply (step_take m K c 2 1 7 rfl (NA_eq 1) rfl) $$ [$HO $A1 $HB]
  iintro ⟨HO, A1, HB⟩
  iapply step_ret
  iapply Hk $$ [$HO $A0 $A1 $HB]

/-- The first column block is complete, its half ready to go; both neighbours have signalled. -/
theorem part9 {v20 : BitVec 32} {Q : PUnit → sProp 𝕄} :
    iprop(Ows m K c 2 ∗ WIdle m c 0 ∗ WFly m c 1 3 ∗ AB m c 8 ∗ atC c 0 (acc2 m c 0) ∗ anyOf (F := F) c (rsM 0) ∗ Due c none 2)
      ⊢ iprop((iprop(Ows m K c 2 ∗ WFly m c 0 4 ∗ WIdle m c 1 ∗ AB m c 8 ∗ atC c 0 (acc3 m c 0) ∗ atS c 0 (rsS m c 0)
            ∗ barX (F := F) c ∗ barY (F := F) c ∗ Shut c none) -∗ Q ⟨⟩)
        -∗ runs c (onBufs k0_part9 c (SemArray.scalar (sig.barrier 0 rfl)) v20) Q) := by
  simp only [onBufs, k0_part9_eq_skeleton]
  unfold k0_part9_skel
  simp only [semWaitWord, Prog.lift, Prog.bind_op, Prog.bind_ret, Prog.pure_eq_ret]
  iintro ⟨HO, W0, W1, HB, HC, HS, HD⟩ Hk
  iapply (step_fetchW m c 0 4 rfl rfl) $$ [$W0]
  iintro W0
  iapply (step_accum m K c 2 1 0 3 8 3 (by decide) rfl (NW_eq 1) (Y := acc3 m c 0) rfl rfl) $$ [$HO $W1 $HB $HC]
  iintro ⟨HO, W1, HB, HC⟩
  iapply (step_half m c 0 0 (off9 c) rfl) $$ [$HC $HS]
  iintro ⟨HC, HS⟩
  iapply (step_barrier m K c 2 (by decide) rfl) $$ [$HO $HD]
  iintro ⟨HO, HX, HY, HZ⟩
  iapply step_ret
  iapply Hk $$ [$HO $W0 $W1 $HB $HC $HS $HX $HY $HZ]

/-- The first half goes to the neighbour in the row; the second column block's first product. -/
theorem part10 {v2 v7 : BitVec 32} {Q : FVec F S1024x512 .f32 → sProp 𝕄} :
    iprop(Ows m K c 2 ∗ WFly m c 0 4 ∗ WIdle m c 1 ∗ AB m c 8 ∗ Tok c 0 0 ∗ atS c 0 (rsS m c 0) ∗ anyOf (F := F) (yn c) (rvM 0) ∗ extra (F := F) c 0)
      ⊢ iprop((iprop(Ows m K c 3 ∗ WIdle m c 0 ∗ WFly m c 1 5 ∗ AB m c 8 ∗ Due c (snd 0 0) NB) -∗ Q (k0_pay16 (aK m c 0) (wT m c 4)))
        -∗ runs c (onBufs k0_part10 c v2 v7) Q) := by
  simp only [onBufs, k0_part10_eq_skeleton]
  unfold k0_part10_skel
  simp only [Prog.lift, Prog.bind_op, Prog.bind_ret, Prog.pure_eq_ret]
  iintro ⟨HO, W0, W1, HB, HT, HS, HV, HE⟩ Hk
  iapply (step_sendRS m K c 2 0 (by decide) rfl (dev_yn c _ (k0_dev3_eq c)) rfl rfl) $$ [$HO $HT $HS $HV $HE]
  iintro ⟨HO, HD⟩
  iapply (step_fetchW m c 1 5 rfl rfl) $$ [$W1]
  iintro W1
  iapply (step_pair m K c 3 0 4 8 0 (by decide) rfl (NW_eq 0)) $$ [$HO $W0 $HB]
  iintro ⟨HO, W0, HB⟩
  iapply step_ret
  iapply Hk $$ [$HO $W0 $W1 $HB $HD]

/-- The second column block's first two sums. -/
theorem part11 {X : S1x1024x512.Idx → Elt F .f32} {Q : PUnit → sProp 𝕄} :
    iprop(Ows m K c 3 ∗ WIdle m c 0 ∗ WFly m c 1 5 ∗ AB m c 8 ∗ atC c 1 X)
      ⊢ iprop((iprop(Ows m K c 3 ∗ WFly m c 0 6 ∗ WIdle m c 1 ∗ AB m c 8 ∗ atC c 1 (acc1 m c 1)) -∗ Q ⟨⟩)
        -∗ runs c (onBufs k0_part11 (k0_pay16 (aK m c 0) (wT m c 4))) Q) := by
  simp only [onBufs, k0_part11_eq_skeleton]
  unfold k0_part11_skel
  simp only [Prog.lift, Prog.bind_op, Prog.bind_ret, Prog.pure_eq_ret]
  iintro ⟨HO, W0, W1, HB, HC⟩ Hk
  iapply (step_loadC c 1) $$ [$HC]
  iintro HC
  iapply (step_storeC c 1 (w := acc0 m c 1)) $$ [$HC]
  iintro HC
  iapply (step_fetchW m c 0 6 rfl rfl) $$ [$W0]
  iintro W0
  iapply (step_accum m K c 3 1 1 5 8 1 (by decide) rfl (NW_eq 1) (Y := acc1 m c 1) rfl rfl) $$ [$HO $W1 $HB $HC]
  iintro ⟨HO, W1, HB, HC⟩
  iapply step_ret
  iapply Hk $$ [$HO $W0 $W1 $HB $HC]

/-- Its third. -/
theorem part12 {Q : PUnit → sProp 𝕄} :
    iprop(Ows m K c 3 ∗ WFly m c 0 6 ∗ WIdle m c 1 ∗ AB m c 8 ∗ atC c 1 (acc1 m c 1))
      ⊢ iprop((iprop(Ows m K c 3 ∗ WFly m c 0 8 ∗ WFly m c 1 7 ∗ AB m c 8 ∗ atC c 1 (acc2 m c 1)) -∗ Q ⟨⟩)
        -∗ runs c (onBufs k0_part12) Q) := by
  simp only [onBufs, k0_part12_eq_skeleton]
  unfold k0_part12_skel
  simp only [Prog.lift, Prog.bind_op, Prog.bind_ret, Prog.pure_eq_ret]
  iintro ⟨HO, W0, W1, HB, HC⟩ Hk
  iapply (step_fetchW m c 1 7 rfl rfl) $$ [$W1]
  iintro W1
  iapply (step_accum m K c 3 0 1 6 8 2 (by decide) rfl (NW_eq 0) (Y := acc2 m c 1) rfl rfl) $$ [$HO $W0 $HB $HC]
  iintro ⟨HO, W0, HB, HC⟩
  iapply (step_fetchW m c 0 8 rfl rfl) $$ [$W0]
  iintro W0
  iapply step_ret
  iapply Hk $$ [$HO $W0 $W1 $HB $HC]

/-- Its last, and the half to go. -/
theorem part13 {v2 v7 v20 : BitVec 32} {Q : PUnit → sProp 𝕄} :
    iprop(Ows m K c 3 ∗ WFly m c 1 7 ∗ AB m c 8 ∗ atC c 1 (acc2 m c 1) ∗ anyOf (F := F) c (rsM 1))
      ⊢ iprop((iprop(Ows m K c 3 ∗ WIdle m c 1 ∗ AB m c 8 ∗ atC c 1 (acc3 m c 1) ∗ atS c 1 (rsS m c 1)) -∗ Q ⟨⟩)
        -∗ runs c (onBufs k0_part13 c v2 v7 v20) Q) := by
  simp only [onBufs, k0_part13_eq_skeleton]
  unfold k0_part13_skel
  simp only [Prog.lift, Prog.bind_op, Prog.bind_ret, Prog.pure_eq_ret]
  iintro ⟨HO, W1, HB, HC, HS⟩ Hk
  iapply (step_accum m K c 3 1 1 7 8 3 (by decide) rfl (NW_eq 1) (Y := acc3 m c 1) rfl rfl) $$ [$HO $W1 $HB $HC]
  iintro ⟨HO, W1, HB, HC⟩
  iapply (step_half m c 1 1 (off10 c) rfl) $$ [$HC $HS]
  iintro ⟨HC, HS⟩
  iapply step_ret
  iapply Hk $$ [$HO $W1 $HB $HC $HS]

/-- The second half goes; the first half's transfers are over, and this device's first piece is finished. -/
theorem part14 {v2 v7 v18 v23 : BitVec 32} {Q : PUnit → sProp 𝕄} :
    iprop(Ows m K c 3 ∗ Tok c 0 1 ∗ atS c 1 (rsS m c 1) ∗ anyOf (F := F) (yn c) (rvM 1) ∗ Due c (snd 0 0) NB ∗ Due c (rcv 0 0) NB
        ∗ atC c 0 (acc3 m c 0) ∗ anyOf (F := F) c (oM c 0))
      ⊢ iprop((iprop(Ows m K c 4 ∗ Due c (snd 0 1) NB ∗ anyOf (F := F) c (rsM 0) ∗ Shut c (snd 0 0) ∗ anyOf (F := F) (dg c) (oM c 3) ∗ Shut c (rcv 0 0)
            ∗ atC c 0 (acc3 m c 0) ∗ atV c 0 (rsV m (yn c) 0) ∗ outP m c c 0 fullShare) -∗ Q ⟨⟩)
        -∗ runs c (onBufs k0_part14 c v2 v7 v18 v23) Q) := by
  simp only [onBufs, k0_part14_eq_skeleton]
  unfold k0_part14_skel
  simp only [Prog.lift, Prog.bind_op, Prog.bind_ret, Prog.pure_eq_ret]
  iintro ⟨HO, HT, HS, HV, D1, D2, HC, HP⟩ Hk
  iapply (step_sendRS m K c 3 1 (by decide) rfl (dev_yn c _ (k0_dev4_eq c)) rfl rfl) $$ [$HO $HT $HS $HV]
  · unfold extra; iempintro
  iintro ⟨HO, D3⟩
  iapply (step_got m K c 4 (false, 0, 0) (by decide) rfl (backR m c 0 rfl) (by rfl)) $$ [$HO $D1]
  iintro ⟨HO, HS, Z1⟩
  iapply (step_got m K c 4 (true, 0, 0) (by decide) rfl (comeR0 m c) (by rfl)) $$ [$HO $D2]
  iintro ⟨HO, ⟨HV, HG⟩, Z2⟩
  iapply (step_finish m c 0 0 (off11 c) (off12 c) (off12 c) rfl) $$ [$HC $HV $HP]
  iintro ⟨HC, HV, HP⟩
  iapply step_ret
  iapply Hk $$ [$HO $D3 $HS $Z1 $HG $Z2 $HC $HV $HP]

/-- The first piece goes to both neighbours. -/
theorem part15 {v2 v5 v6 v7 : BitVec 32} {Q : PUnit → sProp 𝕄} :
    iprop(Ows m K c 4 ∗ Tok c 1 0 ∗ Tok c 2 0 ∗ outP m c c 0 fullShare ∗ anyOf (F := F) (xn c) (oM c 0) ∗ anyOf (F := F) (yn c) (oM c 0) ∗ WIdle m c 1)
      ⊢ iprop((iprop(Ows m K c 6 ∗ Due c (snd 1 0) NB ∗ Due c (snd 2 0) NB ∗ WFly m c 1 9) -∗ Q ⟨⟩)
        -∗ runs c (onBufs k0_part15 c v2 v5 v6 v7) Q) := by
  simp only [onBufs, k0_part15_eq_skeleton]
  unfold k0_part15_skel
  simp only [Prog.lift, Prog.bind_op, Prog.bind_ret, Prog.pure_eq_ret]
  iintro ⟨HO, T1, T2, HP, X1, X2, W1⟩ Hk
  ihave HP := (shares m c 0 (by decide)) $$ [$HP]
  icases HP with ⟨P1, P2⟩
  iapply (step_sendO m K c 4 1 0 c fullShare.left (by decide) rfl (dev_xn c _ (k0_dev5_eq c)) (off13 c) rfl rfl (srcX m c 0) (dstX m c 0)) $$ [$HO $T1 $P1 X1]
  · iexact X1
  iintro ⟨HO, D1⟩
  iapply (step_sendO m K c 5 2 0 c (qY 0) (by decide) rfl (dev_yn c _ (k0_dev6_eq c)) (off13 c) rfl rfl (srcY m c 0) (dstY m c 0)) $$ [$HO $T2 $P2 X2]
  · iexact X2
  iintro ⟨HO, D2⟩
  iapply (step_fetchW m c 1 9 rfl rfl) $$ [$W1]
  iintro W1
  iapply step_ret
  iapply Hk $$ [$HO $D1 $D2 $W1]

end Parts

end Cert.Fused
end
-- ==== Proof.PartsB.lean ====
/-
  The body part by part, each part from what it needs to what it leaves: the last column blocks and the last waits.
-/
module

public import proofs.«01_k».proof.Proof.Groups

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {α : Type} {Q : α → sProp (MT nD τ sig Unit (Elt F) ℕ UU ℕ)} {kk : PUnit → Prog (TpuEff nD τ sig (Elt F) Λ₀ .tc) α}

section Parts
variable (m : Mem F) (K : Dev nD × Cell → ℕ) (c : Dev nD)

/-- The third column block's first two products. -/
theorem part16 {X : S1x1024x512.Idx → Elt F .f32} {Q : FVec F S1024x512 .f32 → sProp 𝕄} :
    iprop(Ows m K c 6 ∗ WFly m c 0 8 ∗ WFly m c 1 9 ∗ AB m c 8 ∗ atC c 0 X)
      ⊢ iprop((iprop(Ows m K c 6 ∗ WFly m c 0 10 ∗ WIdle m c 1 ∗ AB m c 8 ∗ atC c 0 (acc0 m c 2)) -∗ Q (k0_pay24 (aK m c 1) (wT m c 9)))
        -∗ runs c (onBufs k0_part16) Q) := by
  simp only [onBufs, k0_part16_eq_skeleton]
  unfold k0_part16_skel
  simp only [Prog.lift, Prog.bind_op, Prog.bind_ret, Prog.pure_eq_ret]
  iintro ⟨HO, W0, W1, HB, HC⟩ Hk
  iapply (step_pair m K c 6 0 8 8 0 (by decide) rfl (NW_eq 0)) $$ [$HO $W0 $HB]
  iintro ⟨HO, W0, HB⟩
  iapply (step_loadC c 0) $$ [$HC]
  iintro HC
  iapply (step_storeC c 0 (w := acc0 m c 2)) $$ [$HC]
  iintro HC
  iapply (step_fetchW m c 0 10 rfl rfl) $$ [$W0]
  iintro W0
  iapply (step_pair m K c 6 1 9 8 1 (by decide) rfl (NW_eq 1)) $$ [$HO $W1 $HB]
  iintro ⟨HO, W1, HB⟩
  iapply step_ret
  iapply Hk $$ [$HO $W0 $W1 $HB $HC]

/-- Its second and third sums. -/
theorem part17 {Q : PUnit → sProp 𝕄} :
    iprop(Ows m K c 6 ∗ WFly m c 0 10 ∗ WIdle m c 1 ∗ AB m c 8 ∗ atC c 0 (acc0 m c 2))
      ⊢ iprop((iprop(Ows m K c 6 ∗ WIdle m c 0 ∗ WFly m c 1 11 ∗ AB m c 8 ∗ atC c 0 (acc2 m c 2)) -∗ Q ⟨⟩)
        -∗ runs c (onBufs k0_part17 (k0_pay24 (aK m c 1) (wT m c 9))) Q) := by
  simp only [onBufs, k0_part17_eq_skeleton]
  unfold k0_part17_skel
  simp only [Prog.lift, Prog.bind_op, Prog.bind_ret, Prog.pure_eq_ret]
  iintro ⟨HO, W0, W1, HB, HC⟩ Hk
  iapply (step_loadC c 0) $$ [$HC]
  iintro HC
  iapply (step_loadC c 0) $$ [$HC]
  iintro HC
  iapply (step_storeC c 0 (w := acc1 m c 2)) $$ [$HC]
  iintro HC
  iapply (step_fetchW m c 1 11 rfl rfl) $$ [$W1]
  iintro W1
  iapply (step_accum m K c 6 0 0 10 8 2 (by decide) rfl (NW_eq 0) (Y := acc2 m c 2) rfl rfl) $$ [$HO $W0 $HB $HC]
  iintro ⟨HO, W0, HB, HC⟩
  iapply step_ret
  iapply Hk $$ [$HO $W0 $W1 $HB $HC]

/-- Its last, and the half to go. -/
theorem part18 {v20 : BitVec 32} {Q : PUnit → sProp 𝕄} :
    iprop(Ows m K c 6 ∗ WIdle m c 0 ∗ WFly m c 1 11 ∗ AB m c 8 ∗ atC c 0 (acc2 m c 2) ∗ anyOf (F := F) c (rsM 0))
      ⊢ iprop((iprop(Ows m K c 6 ∗ WFly m c 0 12 ∗ WIdle m c 1 ∗ AB m c 8 ∗ atC c 0 (acc3 m c 2) ∗ atS c 0 (rsS m c 2)) -∗ Q ⟨⟩)
        -∗ runs c (onBufs k0_part18 c v20) Q) := by
  simp only [onBufs, k0_part18_eq_skeleton]
  unfold k0_part18_skel
  simp only [Prog.lift, Prog.bind_op, Prog.bind_ret, Prog.pure_eq_ret]
  iintro ⟨HO, W0, W1, HB, HC, HS⟩ Hk
  iapply (step_fetchW m c 0 12 rfl rfl) $$ [$W0]
  iintro W0
  iapply (step_accum m K c 6 1 0 11 8 3 (by decide) rfl (NW_eq 1) (Y := acc3 m c 2) rfl rfl) $$ [$HO $W1 $HB $HC]
  iintro ⟨HO, W1, HB, HC⟩
  iapply (step_half m c 0 2 (off9 c) rfl) $$ [$HC $HS]
  iintro ⟨HC, HS⟩
  iapply step_ret
  iapply Hk $$ [$HO $W0 $W1 $HB $HC $HS]

/-- The third half goes; the second has been read. -/
theorem part19 {v2 v7 : BitVec 32} {Q : PUnit → sProp 𝕄} :
    iprop(Ows m K c 6 ∗ Tok c 0 2 ∗ atS c 0 (rsS m c 2) ∗ anyOf (F := F) (yn c) (rvM 2) ∗ Due c (snd 0 1) NB)
      ⊢ iprop((iprop(Ows m K c 7 ∗ Due c (snd 0 2) NB ∗ anyOf (F := F) c (rsM 1) ∗ Shut c (snd 0 1)) -∗ Q ⟨⟩)
        -∗ runs c (onBufs k0_part19 c v2 v7) Q) := by
  simp only [onBufs, k0_part19_eq_skeleton]
  unfold k0_part19_skel
  simp only [Prog.lift, Prog.bind_op, Prog.bind_ret, Prog.pure_eq_ret]
  iintro ⟨HO, HT, HS, HV, D1⟩ Hk
  iapply (step_sendRS m K c 6 2 (by decide) rfl (dev_yn c _ (k0_dev7_eq c)) rfl rfl) $$ [$HO $HT $HS $HV]
  · unfold extra; iempintro
  iintro ⟨HO, D2⟩
  iapply (step_got m K c 7 (false, 0, 1) (by decide) rfl (backR m c 1 rfl) (by rfl)) $$ [$HO $D1]
  iintro ⟨HO, HS, Z1⟩
  iapply step_ret
  iapply Hk $$ [$HO $D2 $HS $Z1]

/-- The second piece is finished and goes to both neighbours. -/
theorem part20 {v2 v5 v6 v7 v18 v23 : BitVec 32} {Q : PUnit → sProp 𝕄} :
    iprop(Ows m K c 7 ∗ Due c (rcv 0 1) NB ∗ atC c 1 (acc3 m c 1) ∗ anyOf (F := F) c (oM c 1) ∗ Tok c 1 1 ∗ Tok c 2 1
        ∗ anyOf (F := F) (xn c) (oM c 1) ∗ anyOf (F := F) (yn c) (oM c 1))
      ⊢ iprop((iprop(Ows m K c 9 ∗ Shut c (rcv 0 1) ∗ atC c 1 (acc3 m c 1) ∗ atV c 1 (rsV m (yn c) 1) ∗ Due c (snd 1 1) NB ∗ Due c (snd 2 1) NB) -∗ Q ⟨⟩)
        -∗ runs c (onBufs k0_part20 c v2 v5 v6 v7 v18 v23) Q) := by
  simp only [onBufs, k0_part20_eq_skeleton]
  unfold k0_part20_skel
  simp only [Prog.lift, Prog.bind_op, Prog.bind_ret, Prog.pure_eq_ret]
  iintro ⟨HO, D1, HC, HP, T1, T2, X1, X2⟩ Hk
  iapply (step_got m K c 7 (true, 0, 1) (by decide) rfl (comeR m c (j := 1) (by decide)) (by rfl)) $$ [$HO $D1]
  iintro ⟨HO, HV, Z1⟩
  iapply (step_finish m c 1 1 (off14 c) (off15 c) (off15 c) rfl) $$ [$HC $HV $HP]
  iintro ⟨HC, HV, HP⟩
  ihave HP := (shares m c 1 (by decide)) $$ [$HP]
  icases HP with ⟨P1, P2⟩
  iapply (step_sendO m K c 7 1 1 c fullShare.left (by decide) rfl (dev_xn c _ (k0_dev8_eq c)) (off16 c) rfl rfl (srcX m c 1) (dstX m c 1)) $$ [$HO $T1 $P1 X1]
  · iexact X1
  iintro ⟨HO, D1⟩
  iapply (step_sendO m K c 8 2 1 c (qY 1) (by decide) rfl (dev_yn c _ (k0_dev9_eq c)) (off16 c) rfl rfl (srcY m c 1) (dstY m c 1)) $$ [$HO $T2 $P2 X2]
  · iexact X2
  iintro ⟨HO, D2⟩
  iapply step_ret
  iapply Hk $$ [$HO $Z1 $HC $HV $D1 $D2]

/-- The neighbour's first piece arrives and is passed on across. -/
theorem part21 {v2 v5 v6 v7 : BitVec 32} {Q : PUnit → sProp 𝕄} :
    iprop(Ows m K c 9 ∗ Due c (rcv 2 0) NB ∗ Tok c 3 0 ∗ anyOf (F := F) (xn c) (oM (yn c) 0) ∗ WFly m c 0 12 ∗ WIdle m c 1)
      ⊢ iprop((iprop(Ows m K c 10 ∗ Shut c (rcv 2 0) ∗ Due c (snd 3 0) NB ∗ WHave m c 0 12 ∗ WFly m c 1 13) -∗ Q ⟨⟩)
        -∗ runs c (onBufs k0_part21 c v2 v5 v6 v7) Q) := by
  simp only [onBufs, k0_part21_eq_skeleton]
  unfold k0_part21_skel
  simp only [Prog.lift, Prog.bind_op, Prog.bind_ret, Prog.pure_eq_ret]
  iintro ⟨HO, D1, T1, X1, W0, W1⟩ Hk
  iapply (step_got m K c 9 (true, 2, 0) (by decide) rfl (comeY m c 0) (by rfl)) $$ [$HO $D1]
  iintro ⟨HO, HP, Z1⟩
  iapply (step_sendO m K c 9 3 0 (yn c) fullShare (by decide) rfl (dev_xn c _ (k0_dev10_eq c)) (off17 c) rfl rfl
    (srcD m c (j := 0) (by decide)) (dstD m c (j := 0) (by decide))) $$ [$HO $T1 $HP X1]
  · iexact X1
  iintro ⟨HO, D1⟩
  iapply (step_fetchW m c 1 13 rfl rfl) $$ [$W1]
  iintro W1
  iapply (step_landW m K c 10 0 12 rfl (NW_eq 0)) $$ [$HO $W0]
  iintro ⟨HO, W0⟩
  iapply step_ret
  iapply Hk $$ [$HO $Z1 $D1 $W0 $W1]

/-- The last column block's first two products. -/
theorem part22 {X : S1x1024x512.Idx → Elt F .f32} {Q : FVec F S1024x512 .f32 → sProp 𝕄} :
    iprop(Ows m K c 10 ∗ WHave m c 0 12 ∗ WFly m c 1 13 ∗ AB m c 8 ∗ atC c 1 X)
      ⊢ iprop((iprop(Ows m K c 10 ∗ WFly m c 0 14 ∗ WIdle m c 1 ∗ AB m c 8 ∗ atC c 1 (acc0 m c 3))
          -∗ Q (k0_pay31 (aK m c 1) (wT m c 13) (acc0 m c 3)))
        -∗ runs c (onBufs k0_part22) Q) := by
  simp only [onBufs, k0_part22_eq_skeleton]
  unfold k0_part22_skel
  simp only [Prog.lift, Prog.bind_op, Prog.bind_ret, Prog.pure_eq_ret]
  iintro ⟨HO, W0, W1, HB, HC⟩ Hk
  iapply (step_loadK m c 8 0 (by decide)) $$ [$HB]
  iintro HB
  iapply (step_loadW m c 0 12) $$ [$W0]
  iintro W0
  iapply (step_loadC c 1) $$ [$HC]
  iintro HC
  iapply (step_storeC c 1 (w := acc0 m c 3)) $$ [$HC]
  iintro HC
  iapply (step_fetchW m c 0 14 rfl rfl) $$ [$W0]
  iintro W0
  iapply (step_pair m K c 10 1 13 8 1 (by decide) rfl (NW_eq 1)) $$ [$HO $W1 $HB]
  iintro ⟨HO, W1, HB⟩
  iapply (step_loadC c 1) $$ [$HC]
  iintro HC
  iapply step_ret
  iapply Hk $$ [$HO $W0 $W1 $HB $HC]

/-- Its second and third sums. -/
theorem part23 {Q : PUnit → sProp 𝕄} :
    iprop(Ows m K c 10 ∗ WFly m c 0 14 ∗ WIdle m c 1 ∗ AB m c 8 ∗ atC c 1 (acc0 m c 3))
      ⊢ iprop((iprop(Ows m K c 10 ∗ WIdle m c 0 ∗ WFly m c 1 15 ∗ AB m c 8 ∗ atC c 1 (acc2 m c 3)) -∗ Q ⟨⟩)
        -∗ runs c (onBufs k0_part23 (k0_pay31 (aK m c 1) (wT m c 13) (acc0 m c 3))) Q) := by
  simp only [onBufs, k0_part23_eq_skeleton]
  unfold k0_part23_skel
  simp only [Prog.lift, Prog.bind_op, Prog.bind_ret, Prog.pure_eq_ret]
  iintro ⟨HO, W0, W1, HB, HC⟩ Hk
  iapply (step_loadC c 1) $$ [$HC]
  iintro HC
  iapply (step_storeC c 1 (w := acc1 m c 3)) $$ [$HC]
  iintro HC
  iapply (step_fetchW m c 1 15 rfl rfl) $$ [$W1]
  iintro W1
  iapply (step_accum m K c 10 0 1 14 8 2 (by decide) rfl (NW_eq 0) (Y := acc2 m c 3) rfl rfl) $$ [$HO $W0 $HB $HC]
  iintro ⟨HO, W0, HB, HC⟩
  iapply step_ret
  iapply Hk $$ [$HO $W0 $W1 $HB $HC]

/-- Its last, and the half to go. -/
theorem part24 {v2 v7 v20 : BitVec 32} {Q : PUnit → sProp 𝕄} :
    iprop(Ows m K c 10 ∗ WFly m c 1 15 ∗ AB m c 8 ∗ atC c 1 (acc2 m c 3) ∗ anyOf (F := F) c (rsM 1))
      ⊢ iprop((iprop(Ows m K c 10 ∗ WIdle m c 1 ∗ AB m c 8 ∗ atC c 1 (acc3 m c 3) ∗ atS c 1 (rsS m c 3)) -∗ Q ⟨⟩)
        -∗ runs c (onBufs k0_part24 c v2 v7 v20) Q) := by
  simp only [onBufs, k0_part24_eq_skeleton]
  unfold k0_part24_skel
  simp only [Prog.lift, Prog.bind_op, Prog.bind_ret, Prog.pure_eq_ret]
  iintro ⟨HO, W1, HB, HC, HS⟩ Hk
  iapply (step_accum m K c 10 1 1 15 8 3 (by decide) rfl (NW_eq 1) (Y := acc3 m c 3) rfl rfl) $$ [$HO $W1 $HB $HC]
  iintro ⟨HO, W1, HB, HC⟩
  iapply (step_half m c 1 3 (off10 c) rfl) $$ [$HC $HS]
  iintro ⟨HC, HS⟩
  iapply step_ret
  iapply Hk $$ [$HO $W1 $HB $HC $HS]

/-- The last half goes; the third's transfers are over, and the third piece is finished. -/
theorem part25 {v2 v7 v18 v23 : BitVec 32} {Q : PUnit → sProp 𝕄} :
    iprop(Ows m K c 10 ∗ Tok c 0 3 ∗ atS c 1 (rsS m c 3) ∗ anyOf (F := F) (yn c) (rvM 3) ∗ Due c (snd 0 2) NB ∗ Due c (rcv 0 2) NB
        ∗ atC c 0 (acc3 m c 2) ∗ anyOf (F := F) c (oM c 2))
      ⊢ iprop((iprop(Ows m K c 11 ∗ Due c (snd 0 3) NB ∗ anyOf (F := F) c (rsM 0) ∗ Shut c (snd 0 2) ∗ Shut c (rcv 0 2)
            ∗ atC c 0 (acc3 m c 2) ∗ atV c 2 (rsV m (yn c) 2) ∗ outP m c c 2 fullShare) -∗ Q ⟨⟩)
        -∗ runs c (onBufs k0_part25 c v2 v7 v18 v23) Q) := by
  simp only [onBufs, k0_part25_eq_skeleton]
  unfold k0_part25_skel
  simp only [Prog.lift, Prog.bind_op, Prog.bind_ret, Prog.pure_eq_ret]
  iintro ⟨HO, HT, HS, HV, D1, D2, HC, HP⟩ Hk
  iapply (step_sendRS m K c 10 3 (by decide) rfl (dev_yn c _ (k0_dev11_eq c)) rfl rfl) $$ [$HO $HT $HS $HV]
  · unfold extra; iempintro
  iintro ⟨HO, D3⟩
  iapply (step_got m K c 11 (false, 0, 2) (by decide) rfl (backR m c 0 rfl) (by rfl)) $$ [$HO $D1]
  iintro ⟨HO, HS, Z1⟩
  iapply (step_got m K c 11 (true, 0, 2) (by decide) rfl (comeR m c (j := 2) (by decide)) (by rfl)) $$ [$HO $D2]
  iintro ⟨HO, HV, Z2⟩
  iapply (step_finish m c 0 2 (off11 c) (off18 c) (off18 c) rfl) $$ [$HC $HV $HP]
  iintro ⟨HC, HV, HP⟩
  iapply step_ret
  iapply Hk $$ [$HO $D3 $HS $Z1 $Z2 $HC $HV $HP]

/-- It goes to both neighbours; the neighbour's second piece arrives. -/
theorem part26 {v2 v5 v6 v7 : BitVec 32} {Q : PUnit → sProp 𝕄} :
    iprop(Ows m K c 11 ∗ Tok c 1 2 ∗ Tok c 2 2 ∗ outP m c c 2 fullShare ∗ anyOf (F := F) (xn c) (oM c 2) ∗ anyOf (F := F) (yn c) (oM c 2) ∗ Due c (rcv 2 1) NB)
      ⊢ iprop((iprop(Ows m K c 13 ∗ Due c (snd 1 2) NB ∗ Due c (snd 2 2) NB ∗ outP m c (yn c) 1 fullShare ∗ Shut c (rcv 2 1)) -∗ Q ⟨⟩)
        -∗ runs c (onBufs k0_part26 c v2 v5 v6 v7) Q) := by
  simp only [onBufs, k0_part26_eq_skeleton]
  unfold k0_part26_skel
  simp only [Prog.lift, Prog.bind_op, Prog.bind_ret, Prog.pure_eq_ret]
  iintro ⟨HO, T1, T2, HP, X1, X2, D3⟩ Hk
  ihave HP := (shares m c 2 (by decide)) $$ [$HP]
  icases HP with ⟨P1, P2⟩
  iapply (step_sendO m K c 11 1 2 c fullShare.left (by decide) rfl (dev_xn c _ (k0_dev12_eq c)) (off19 c) rfl rfl (srcX m c 2) (dstX m c 2)) $$ [$HO $T1 $P1 X1]
  · iexact X1
  iintro ⟨HO, D1⟩
  iapply (step_sendO m K c 12 2 2 c (qY 2) (by decide) rfl (dev_yn c _ (k0_dev13_eq c)) (off19 c) rfl rfl (srcY m c 2) (dstY m c 2)) $$ [$HO $T2 $P2 X2]
  · iexact X2
  iintro ⟨HO, D2⟩
  iapply (step_got m K c 13 (true, 2, 1) (by decide) rfl (comeY m c 1) (by rfl)) $$ [$HO $D3]
  iintro ⟨HO, HP, Z⟩
  iapply step_ret
  iapply Hk $$ [$HO $D1 $D2 $HP $Z]

/-- It is passed on across; the last half's transfers are over. -/
theorem part27 {v2 v5 v6 v7 v18 : BitVec 32} {Q : FVec F S512x512 .f32 → sProp 𝕄} :
    iprop(Ows m K c 13 ∗ Tok c 3 1 ∗ outP m c (yn c) 1 fullShare ∗ anyOf (F := F) (xn c) (oM (yn c) 1) ∗ Due c (snd 0 3) NB ∗ Due c (rcv 0 3) NB
        ∗ atC c 1 (acc3 m c 3))
      ⊢ iprop((iprop(Ows m K c 14 ∗ Due c (snd 3 1) NB ∗ anyOf (F := F) c (rsM 1) ∗ Shut c (snd 0 3) ∗ atV c 3 (rsV m (yn c) 3) ∗ Shut c (rcv 0 3)
            ∗ atC c 1 (acc3 m c 3)) -∗ Q (k0_pay37 (accH m c 3 (half c))))
        -∗ runs c (onBufs k0_part27 c v2 v5 v6 v7 v18) Q) := by
  simp only [onBufs, k0_part27_eq_skeleton]
  unfold k0_part27_skel
  simp only [Prog.lift, Prog.bind_op, Prog.bind_ret, Prog.pure_eq_ret]
  iintro ⟨HO, T1, HP, X1, D2, D3, HC⟩ Hk
  iapply (step_sendO m K c 13 3 1 (yn c) fullShare (by decide) rfl (dev_xn c _ (k0_dev14_eq c)) (off20 c) rfl rfl
    (srcD m c (j := 1) (by decide)) (dstD m c (j := 1) (by decide))) $$ [$HO $T1 $HP X1]
  · iexact X1
  iintro ⟨HO, D1⟩
  iapply (step_got m K c 14 (false, 0, 3) (by decide) rfl (backR m c 1 rfl) (by rfl)) $$ [$HO $D2]
  iintro ⟨HO, HS, Z1⟩
  iapply (step_got m K c 14 (true, 0, 3) (by decide) rfl (comeR m c (j := 3) (by decide)) (by rfl)) $$ [$HO $D3]
  iintro ⟨HO, HV, Z2⟩
  iapply (step_loadH c 1 (half c) (off14 c)) $$ [$HC]
  iintro HC
  iapply step_ret (a := k0_pay37 (accH m c 3 (half c)))
  iapply Hk $$ [$HO $D1 $HS $Z1 $HV $Z2 $HC]

/-- Shares of the last piece for its three transfers. -/
theorem shares3 : outP m c c 3 fullShare ⊢ iprop(outP m c c 3 fullShare.left ∗ outP m c c 3 (qY 3) ∗ outP m c c 3 fullShare.right.right) := by
  have h₁ : outP m c c 3 fullShare ⊢ iprop(outP m c c 3 fullShare.left ∗ outP m c c 3 fullShare.right) :=
    (owns_halves (c : Thread nD τ) (oM c 3) fullShare (sumV m c 3)).1
  have h₂ : outP m c c 3 fullShare.right ⊢ iprop(outP m c c 3 (qY 3) ∗ outP m c c 3 fullShare.right.right) :=
    (owns_halves (c : Thread nD τ) (oM c 3) fullShare.right (sumV m c 3)).1
  exact h₁.trans (BI.sep_mono (BI.Entails.refl _) h₂)

/-- The last piece is finished and goes to both neighbours. -/
theorem part28 {v2 v5 v6 v7 v23 : BitVec 32} {Q : (Σ' (v760 : BitVec 32) (v761 : BitVec 32) (v762 : BitVec 32), BitVec 32) → sProp 𝕄} :
    iprop(Ows m K c 14 ∗ atV c 3 (rsV m (yn c) 3) ∗ anyOf (F := F) c (oM c 3) ∗ Tok c 1 3 ∗ Tok c 2 3
        ∗ anyOf (F := F) (xn c) (oM c 3) ∗ anyOf (F := F) (yn c) (oM c 3))
      ⊢ iprop((iprop(Ows m K c 16 ∗ atV c 3 (rsV m (yn c) 3) ∗ Due c (snd 1 3) NB ∗ Due c (snd 2 3) NB ∗ outP m c c 3 fullShare.right.right)
          -∗ ∀ v760, ∀ v761, ∀ v762, ∀ v763, Q ⟨v760, v761, v762, v763⟩)
        -∗ runs c (onBufs k0_part28 c v2 v5 v6 v7 v23 (k0_pay37 (accH m c 3 (half c)))) Q) := by
  simp only [onBufs, k0_part28_eq_skeleton]
  unfold k0_part28_skel
  simp only [Prog.lift, Prog.bind_op, Prog.bind_ret, Prog.pure_eq_ret]
  unfold anyOf
  iintro ⟨HO, HV, ⟨%X, HP⟩, T1, T2, X1, X2⟩ Hk
  iapply (step_loadRv c 3) $$ [$HV]
  iintro HV
  iapply (step_loadO c c 3 (off21 c)) $$ [$HP]
  iintro HP
  iapply (step_storeO c c 3 (off21 c) (w := sumV m c 3)) $$ [$HP]
  iintro HP
  ihave HP := (shares3 m c) $$ [$HP]
  icases HP with ⟨P1, P2, P3⟩
  iapply (step_sendO m K c 14 1 3 c fullShare.left (by decide) rfl (dev_xn c _ (k0_dev15_eq c)) (off22 c) rfl rfl (srcX m c 3) (dstX m c 3)) $$ [$HO $T1 $P1 X1]
  · unfold anyOf; iexact X1
  iintro ⟨HO, D1⟩
  iapply (step_sendO m K c 15 2 3 c (qY 3) (by decide) rfl (dev_yn c _ (k0_dev16_eq c)) (off22 c) rfl rfl (srcY m c 3) (dstY m c 3)) $$ [$HO $T2 $P2 X2]
  · unfold anyOf; iexact X2
  iintro ⟨HO, D2⟩
  iapply step_ret
  iapply Hk $$ [$HO $HV $D1 $D2 $P3]

/-- It goes to the device across; the neighbour's third piece arrives and is passed on. -/
theorem part29 {v2 v5 v6 v7 v761 v762 v763 : BitVec 32} {Q : PUnit → sProp 𝕄} :
    iprop(Ows m K c 16 ∗ Tok c 3 3 ∗ outP m c c 3 fullShare.right.right ∗ anyOf (F := F) (dg c) (oM c 3) ∗ Due c (rcv 2 2) NB
        ∗ Tok c 3 2 ∗ anyOf (F := F) (xn c) (oM (yn c) 2))
      ⊢ iprop((iprop(Ows m K c 18 ∗ Due c (snd 3 3) NB ∗ Shut c (rcv 2 2) ∗ Due c (snd 3 2) NB) -∗ Q ⟨⟩)
        -∗ runs c (onBufs k0_part29 c v2 v5 v6 v7 v761 v762 v763) Q) := by
  simp only [onBufs, k0_part29_eq_skeleton]
  unfold k0_part29_skel
  simp only [Prog.lift, Prog.bind_op, Prog.bind_ret, Prog.pure_eq_ret]
  iintro ⟨HO, T1, HP, X1, D2, T2, X2⟩ Hk
  iapply (step_sendO m K c 16 3 3 c fullShare.right.right (by decide) rfl (dev_dg c _ (k0_dev17_eq c)) (off22 c) rfl rfl (srcE m c) (dstE m c)) $$ [$HO $T1 $HP X1]
  · iexact X1
  iintro ⟨HO, D1⟩
  iapply (step_got m K c 17 (true, 2, 2) (by decide) rfl (comeY m c 2) (by rfl)) $$ [$HO $D2]
  iintro ⟨HO, HP, Z⟩
  iapply (step_sendO m K c 17 3 2 (yn c) fullShare (by decide) rfl (dev_xn c _ (k0_dev18_eq c)) (off23 c) rfl rfl
    (srcD m c (j := 2) (by decide)) (dstD m c (j := 2) (by decide))) $$ [$HO $T2 $HP X2]
  · iexact X2
  iintro ⟨HO, D2⟩
  iapply step_ret
  iapply Hk $$ [$HO $D1 $Z $D2]

/-! ## The transfers still open are waited for -/

theorem part30 {v5 v6 : BitVec 32} {Q : PUnit → sProp 𝕄} :
    iprop(Ows m K c 18 ∗ Due c (snd 1 0) NB ∗ Due c (rcv 1 0) NB ∗ Due c (snd 2 0) NB ∗ Due c (snd 3 0) NB)
      ⊢ iprop((iprop(Ows m K c 18 ∗ (outP m c c 0 fullShare.left ∗ Shut c (snd 1 0)) ∗ (outP m c (xn c) 0 fullShare ∗ Shut c (rcv 1 0))
            ∗ (outP m c c 0 (qY 0) ∗ Shut c (snd 2 0)) ∗ outP m c (yn c) 0 fullShare ∗ Shut c (snd 3 0)) -∗ Q ⟨⟩)
        -∗ runs c (onBufs k0_part30 c v5 v6) Q) := by
  simp only [onBufs, k0_part30_eq_skeleton]
  unfold k0_part30_skel
  simp only [Prog.lift, Prog.bind_op, Prog.bind_ret, Prog.pure_eq_ret]
  iintro ⟨HO, D1, D2, D3, D4⟩ Hk
  iapply (step_got m K c 18 (false, 1, 0) (by decide) rfl (backX m c 0) (by rfl)) $$ [$HO $D1]
  iintro ⟨HO, H1⟩
  iapply (step_got m K c 18 (true, 1, 0) (by decide) rfl (comeX m c 0) (by rfl)) $$ [$HO $D2]
  iintro ⟨HO, H2⟩
  iapply (step_got m K c 18 (false, 2, 0) (by decide) rfl (backY m c 0) (by rfl)) $$ [$HO $D3]
  iintro ⟨HO, H3⟩
  iapply (step_got m K c 18 (false, 3, 0) (by decide) rfl (backD m c (j := 0) (by decide)) (by rfl)) $$ [$HO $D4]
  iintro ⟨HO, H4⟩
  iapply step_ret
  iapply Hk $$ [$HO $H1 $H2 $H3 $H4]

theorem part31 {v5 v6 : BitVec 32} {Q : PUnit → sProp 𝕄} :
    iprop(Ows m K c 18 ∗ Due c (rcv 3 0) NB ∗ Due c (snd 1 1) NB ∗ Due c (rcv 1 1) NB ∗ Due c (snd 2 1) NB ∗ Due c (snd 3 1) NB)
      ⊢ iprop((iprop(Ows m K c 18 ∗ (outP m c (dg c) 0 fullShare ∗ Shut c (rcv 3 0)) ∗ (outP m c c 1 fullShare.left ∗ Shut c (snd 1 1))
            ∗ (outP m c (xn c) 1 fullShare ∗ Shut c (rcv 1 1)) ∗ (outP m c c 1 (qY 1) ∗ Shut c (snd 2 1)) ∗ outP m c (yn c) 1 fullShare ∗ Shut c (snd 3 1)) -∗ Q ⟨⟩)
        -∗ runs c (onBufs k0_part31 c v5 v6) Q) := by
  simp only [onBufs, k0_part31_eq_skeleton]
  unfold k0_part31_skel
  simp only [Prog.lift, Prog.bind_op, Prog.bind_ret, Prog.pure_eq_ret]
  iintro ⟨HO, D1, D2, D3, D4, D5⟩ Hk
  iapply (step_got m K c 18 (true, 3, 0) (by decide) rfl (comeD m c 0) (by rfl)) $$ [$HO $D1]
  iintro ⟨HO, H1⟩
  iapply (step_got m K c 18 (false, 1, 1) (by decide) rfl (backX m c 1) (by rfl)) $$ [$HO $D2]
  iintro ⟨HO, H2⟩
  iapply (step_got m K c 18 (true, 1, 1) (by decide) rfl (comeX m c 1) (by rfl)) $$ [$HO $D3]
  iintro ⟨HO, H3⟩
  iapply (step_got m K c 18 (false, 2, 1) (by decide) rfl (backY m c 1) (by rfl)) $$ [$HO $D4]
  iintro ⟨HO, H4⟩
  iapply (step_got m K c 18 (false, 3, 1) (by decide) rfl (backD m c (j := 1) (by decide)) (by rfl)) $$ [$HO $D5]
  iintro ⟨HO, H5⟩
  iapply step_ret
  iapply Hk $$ [$HO $H1 $H2 $H3 $H4 $H5]

theorem part32 {v5 v6 : BitVec 32} {Q : PUnit → sProp 𝕄} :
    iprop(Ows m K c 18 ∗ Due c (rcv 3 1) NB ∗ Due c (snd 1 2) NB ∗ Due c (rcv 1 2) NB ∗ Due c (snd 2 2) NB)
      ⊢ iprop((iprop(Ows m K c 18 ∗ (outP m c (dg c) 1 fullShare ∗ Shut c (rcv 3 1)) ∗ (outP m c c 2 fullShare.left ∗ Shut c (snd 1 2))
            ∗ (outP m c (xn c) 2 fullShare ∗ Shut c (rcv 1 2)) ∗ outP m c c 2 (qY 2) ∗ Shut c (snd 2 2)) -∗ Q ⟨⟩)
        -∗ runs c (onBufs k0_part32 c v5 v6) Q) := by
  simp only [onBufs, k0_part32_eq_skeleton]
  unfold k0_part32_skel
  simp only [Prog.lift, Prog.bind_op, Prog.bind_ret, Prog.pure_eq_ret]
  iintro ⟨HO, D1, D2, D3, D4⟩ Hk
  iapply (step_got m K c 18 (true, 3, 1) (by decide) rfl (comeD m c 1) (by rfl)) $$ [$HO $D1]
  iintro ⟨HO, H1⟩
  iapply (step_got m K c 18 (false, 1, 2) (by decide) rfl (backX m c 2) (by rfl)) $$ [$HO $D2]
  iintro ⟨HO, H2⟩
  iapply (step_got m K c 18 (true, 1, 2) (by decide) rfl (comeX m c 2) (by rfl)) $$ [$HO $D3]
  iintro ⟨HO, H3⟩
  iapply (step_got m K c 18 (false, 2, 2) (by decide) rfl (backY m c 2) (by rfl)) $$ [$HO $D4]
  iintro ⟨HO, H4⟩
  iapply step_ret
  iapply Hk $$ [$HO $H1 $H2 $H3 $H4]

theorem part33 {v5 v6 : BitVec 32} {Q : PUnit → sProp 𝕄} :
    iprop(Ows m K c 18 ∗ Due c (snd 3 2) NB ∗ Due c (rcv 3 2) NB ∗ Due c (snd 1 3) NB ∗ Due c (rcv 1 3) NB)
      ⊢ iprop((iprop(Ows m K c 18 ∗ (outP m c (yn c) 2 fullShare ∗ Shut c (snd 3 2)) ∗ (outP m c (dg c) 2 fullShare ∗ Shut c (rcv 3 2))
            ∗ (outP m c c 3 fullShare.left ∗ Shut c (snd 1 3)) ∗ outP m c (xn c) 3 fullShare ∗ Shut c (rcv 1 3)) -∗ Q ⟨⟩)
        -∗ runs c (onBufs k0_part33 c v5 v6) Q) := by
  simp only [onBufs, k0_part33_eq_skeleton]
  unfold k0_part33_skel
  simp only [Prog.lift, Prog.bind_op, Prog.bind_ret, Prog.pure_eq_ret]
  iintro ⟨HO, D1, D2, D3, D4⟩ Hk
  iapply (step_got m K c 18 (false, 3, 2) (by decide) rfl (backD m c (j := 2) (by decide)) (by rfl)) $$ [$HO $D1]
  iintro ⟨HO, H1⟩
  iapply (step_got m K c 18 (true, 3, 2) (by decide) rfl (comeD m c 2) (by rfl)) $$ [$HO $D2]
  iintro ⟨HO, H2⟩
  iapply (step_got m K c 18 (false, 1, 3) (by decide) rfl (backX m c 3) (by rfl)) $$ [$HO $D3]
  iintro ⟨HO, H3⟩
  iapply (step_got m K c 18 (true, 1, 3) (by decide) rfl (comeX m c 3) (by rfl)) $$ [$HO $D4]
  iintro ⟨HO, H4⟩
  iapply step_ret
  iapply Hk $$ [$HO $H1 $H2 $H3 $H4]

end Parts

end Cert.Fused
end
-- ==== Proof.Body.lean ====
/-
  The whole body: the parts in order.
-/
module

public import proofs.«01_k».proof.Proof.PartsA
public import proofs.«01_k».proof.Proof.PartsB

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {α : Type} {Q : α → sProp (MT nD τ sig Unit (Elt F) ℕ UU ℕ)} {kk : PUnit → Prog (TpuEff nD τ sig (Elt F) Λ₀ .tc) α}

section Body
variable (m : Mem F) (K : Dev nD × Cell → ℕ) (c : Dev nD)

/-- The tokens of the sixteen transfers device `c` starts, -/
def Toks : sProp 𝕄 := iprop(four (Tok (F := F) c 0) ∗ four (Tok (F := F) c 1) ∗ four (Tok (F := F) c 2) ∗ four (Tok (F := F) c 3))
/-- what it may take from the sixteen that come in, -/
def Dues : sProp 𝕄 := iprop(four (fun j => Due (F := F) c (rcv 0 j) NB) ∗ four (fun j => Due (F := F) c (rcv 1 j) NB)
  ∗ four (fun j => Due (F := F) c (rcv 2 j) NB) ∗ four (fun j => Due (F := F) c (rcv 3 j) NB))
/-- and the semaphores of all of them at rest. -/
def Shuts : sProp 𝕄 := iprop(four (fun j => Shut (F := F) c (snd 0 j)) ∗ four (fun j => Shut (F := F) c (snd 1 j))
  ∗ four (fun j => Shut (F := F) c (snd 2 j)) ∗ four (fun j => Shut (F := F) c (snd 3 j))
  ∗ four (fun j => Shut (F := F) c (rcv 0 j)) ∗ four (fun j => Shut (F := F) c (rcv 1 j))
  ∗ four (fun j => Shut (F := F) c (rcv 2 j)) ∗ four (fun j => Shut (F := F) c (rcv 3 j)))

/-- What the body of device `c` starts from, -/
def Before : sProp 𝕄 :=
  iprop(Ows m K c 0 ∗ dutyTok ER (kcell (xn c, none)) 0 false ∗ dutyTok ER (kcell (yn c, none)) 0 true ∗ barX (F := F) (xn c) ∗ barY (F := F) (yn c)
    ∗ four (fun j => anyOf (F := F) c (oM c j)) ∗ AIdle m c 0 ∗ AIdle m c 1 ∗ WIdle m c 0 ∗ WIdle m c 1 ∗ AB m c 0
    ∗ anyOf (F := F) c (acM 0) ∗ anyOf (F := F) c (acM 1) ∗ anyOf (F := F) c (rsM 0) ∗ anyOf (F := F) c (rsM 1) ∗ Due (F := F) c none 2
    ∗ Toks (F := F) c ∗ Dues (F := F) c)
/-- and what it leaves. -/
def After : sProp 𝕄 :=
  iprop(Ows m K c 18 ∗ AIdle m c 0 ∗ AIdle m c 1 ∗ WIdle m c 0 ∗ WIdle m c 1 ∗ AB m c 8
    ∗ anyOf (F := F) c (acM 0) ∗ anyOf (F := F) c (acM 1) ∗ anyOf (F := F) c (rsM 0) ∗ anyOf (F := F) c (rsM 1) ∗ four (fun j => anyOf (F := F) c (rvM j))
    ∗ four (fun j => outP m c c j fullShare) ∗ four (fun j => outP m c (xn c) j fullShare)
    ∗ four (fun j => outP m c (yn c) j fullShare) ∗ four (fun j => outP m c (dg c) j fullShare)
    ∗ Shut (F := F) c none ∗ Shuts (F := F) c)

theorem extra0 : anyOf (F := F) (xn c) (oM (yn c) 3) ⊢ extra (F := F) c 0 := by unfold extra; rw [if_pos rfl]

/-- A piece's contents are named. -/
theorem any_open {sp : Space} {sh : Shape} {e : EltTy} (x : Memref sig .tc sp sh e) :
    anyOf (F := F) c x ⊢ iprop(∃ X, owns (c : Thread nD τ) x fullShare X) := by unfold anyOf; exact BI.Entails.refl _

/-- A piece's shares are rejoined. -/
theorem rejoin (j : Fin 4) (hj : j ≠ 3) : iprop(outP m c c j fullShare.left ∗ outP m c c j (qY j)) ⊢ outP m c c j fullShare := by
  unfold qY; rw [if_neg hj]
  exact (owns_halves (c : Thread nD τ) (oM c j) fullShare (sumV m c j)).2
theorem rejoin3 : iprop(outP m c c 3 fullShare.left ∗ outP m c c 3 (qY 3) ∗ outP m c c 3 fullShare.right.right) ⊢ outP m c c 3 fullShare := by
  have h₁ : iprop(outP m c c 3 fullShare.left ∗ outP m c c 3 fullShare.right) ⊢ outP m c c 3 fullShare :=
    (owns_halves (c : Thread nD τ) (oM c 3) fullShare (sumV m c 3)).2
  have h₂ : iprop(outP m c c 3 (qY 3) ∗ outP m c c 3 fullShare.right.right) ⊢ outP m c c 3 fullShare.right :=
    (owns_halves (c : Thread nD τ) (oM c 3) fullShare.right (sumV m c 3)).2
  exact (BI.sep_mono (BI.Entails.refl _) h₂).trans h₁

set_option maxHeartbeats 4000000 in
/-- The whole body. -/
theorem body_run {Q : PUnit → sProp 𝕄} : Before m K c ⊢ iprop((After m K c -∗ Q ⟨⟩) -∗ runs c (onBufs cc0_body) Q) := by
  simp only [onBufs, cc0_body_eq_skeleton]
  unfold cc0_body_skel
  rw [k0_part34_eq_skeleton]
  unfold k0_part34_skel
  unfold Before Toks Dues four
  iintro ⟨HO, KX, KY, BX, BY, ⟨P0, P1, P2, P3⟩, A0, A1, W0, W1, HB, C0, C1, S0, S1, HD, ⟨⟨T00, T01, T02, T03⟩, ⟨T10, T11, T12, T13⟩, ⟨T20, T21, T22, T23⟩, T30, T31, T32, T33⟩, ⟨R00, R01, R02, R03⟩, ⟨R10, R11, R12, R13⟩, ⟨R20, R21, R22, R23⟩, R30, R31, R32, R33⟩ Hk
  simp only [wp_bind]
  iapply (part1 m K c) $$ [$HO $KX $KY $BX $BY]
  iintro HO %v2 %v5 %v6 %v7 %v18 %v20 %v23
  iapply (part2 m K c) $$ [$HO $A0 $A1 $W0 $HB]
  iintro ⟨HO, A0, A1, W0, HB⟩
  iapply (part3 m K c) $$ [$HO $A0 $A1 $W0 $W1 $HB]
  iintro ⟨HO, A0, A1, W0, W1, HB⟩
  ihave C0 := (any_open c (acM 0)) $$ [$C0]
  icases C0 with ⟨%X0, C0⟩
  iapply (part4 m K c) $$ [$HO $A0 $A1 $HB $C0]
  iintro ⟨HO, A0, A1, HB, C0⟩
  iapply (part5 m K c) $$ [$HO $A1 $W0 $W1 $HB $C0]
  iintro ⟨HO, A1, W0, W1, HB, C0⟩
  iapply (part6 m K c) $$ [$HO $A0 $A1 $HB $C0]
  iintro ⟨HO, A0, A1, HB, C0⟩
  iapply (part7 m K c) $$ [$HO $A1 $W0 $W1 $HB $C0]
  iintro ⟨HO, A1, W0, W1, HB, C0⟩
  iapply (part8 m K c) $$ [$HO $A0 $A1 $HB]
  iintro ⟨HO, A0, A1, HB⟩
  iapply (part9 m K c) $$ [$HO $W0 $W1 $HB $C0 $S0 $HD]
  iintro ⟨HO, W0, W1, HB, C0, S0, BX, BY, ZB⟩
  unfold barX barY four
  icases BX with ⟨⟨X0, X1, X2, X3⟩, N0, N1, N2, N3⟩
  icases BY with ⟨⟨Y0, Y1, Y2, Y3⟩, V0, V1, V2, V3⟩
  ihave N3 := (extra0 c) $$ [$N3]
  iapply (part10 m K c) $$ [$HO $W0 $W1 $HB $T00 $S0 $V0 $N3]
  iintro ⟨HO, W0, W1, HB, D00⟩
  ihave C1 := (any_open c (acM 1)) $$ [$C1]
  icases C1 with ⟨%Z1, C1⟩
  iapply (part11 m K c) $$ [$HO $W0 $W1 $HB $C1]
  iintro ⟨HO, W0, W1, HB, C1⟩
  iapply (part12 m K c) $$ [$HO $W0 $W1 $HB $C1]
  iintro ⟨HO, W0, W1, HB, C1⟩
  iapply (part13 m K c) $$ [$HO $W1 $HB $C1 $S1]
  iintro ⟨HO, W1, HB, C1, S1⟩
  iapply (part14 m K c) $$ [$HO $T01 $S1 $V1 $D00 $R00 $C0 $P0]
  iintro ⟨HO, D01, S0, ZS00, N3, ZR00, C0, V0, P0⟩
  iapply (part15 m K c) $$ [$HO $T10 $T20 $P0 $X0 $Y0 $W1]
  iintro ⟨HO, D10, D20, W1⟩
  iapply (part16 m K c) $$ [$HO $W0 $W1 $HB $C0]
  iintro ⟨HO, W0, W1, HB, C0⟩
  iapply (part17 m K c) $$ [$HO $W0 $W1 $HB $C0]
  iintro ⟨HO, W0, W1, HB, C0⟩
  iapply (part18 m K c) $$ [$HO $W0 $W1 $HB $C0 $S0]
  iintro ⟨HO, W0, W1, HB, C0, S0⟩
  iapply (part19 m K c) $$ [$HO $T02 $S0 $V2 $D01]
  iintro ⟨HO, D02, S1, ZS01⟩
  iapply (part20 m K c) $$ [$HO $R01 $C1 $P1 $T11 $T21 $X1 $Y1]
  iintro ⟨HO, ZR01, C1, V1, D11, D21⟩
  iapply (part21 m K c) $$ [$HO $R20 $T30 $N0 $W0 $W1]
  iintro ⟨HO, ZR20, D30, W0, W1⟩
  iapply (part22 m K c) $$ [$HO $W0 $W1 $HB $C1]
  iintro ⟨HO, W0, W1, HB, C1⟩
  iapply (part23 m K c) $$ [$HO $W0 $W1 $HB $C1]
  iintro ⟨HO, W0, W1, HB, C1⟩
  iapply (part24 m K c) $$ [$HO $W1 $HB $C1 $S1]
  iintro ⟨HO, W1, HB, C1, S1⟩
  iapply (part25 m K c) $$ [$HO $T03 $S1 $V3 $D02 $R02 $C0 $P2]
  iintro ⟨HO, D03, S0, ZS02, ZR02, C0, V2, P2⟩
  iapply (part26 m K c) $$ [$HO $T12 $T22 $P2 $X2 $Y2 $R21]
  iintro ⟨HO, D12, D22, Q1, ZR21⟩
  iapply (part27 m K c) $$ [$HO $T31 $Q1 $N1 $D03 $R03 $C1]
  iintro ⟨HO, D31, S1, ZS03, V3, ZR03, C1⟩
  iapply (part28 m K c) $$ [$HO $V3 $P3 $T13 $T23 $X3 $Y3]
  iintro ⟨HO, V3, D13, D23, P3⟩ %v760 %v761 %v762 %v763
  iapply (part29 m K c) $$ [$HO $T33 $P3 $N3 $R22 $T32 $N2]
  iintro ⟨HO, D33, ZR22, D32⟩
  iapply (part30 m K c) $$ [$HO $D10 $R10 $D20 $D30]
  iintro ⟨HO, ⟨L0, ZS10⟩, ⟨F0, ZR10⟩, ⟨M0, ZS20⟩, G0, ZS30⟩
  iapply (part31 m K c) $$ [$HO $R30 $D11 $R11 $D21 $D31]
  iintro ⟨HO, ⟨H0, ZR30⟩, ⟨L1, ZS11⟩, ⟨F1, ZR11⟩, ⟨M1, ZS21⟩, G1, ZS31⟩
  iapply (part32 m K c) $$ [$HO $R31 $D12 $R12 $D22]
  iintro ⟨HO, ⟨H1, ZR31⟩, ⟨L2, ZS12⟩, ⟨F2, ZR12⟩, M2, ZS22⟩
  iapply (part33 m K c) $$ [$HO $D32 $R32 $D13 $R13]
  iintro ⟨HO, ⟨G2, ZS32⟩, ⟨H2, ZR32⟩, ⟨L3, ZS13⟩, F3, ZR13⟩
  simp only [Prog.lift, Prog.bind_op, Prog.bind_ret, Prog.pure_eq_ret]
  iapply (step_got m K c 18 (false, 2, 3) (by decide) rfl (backY m c 3) (by rfl)) $$ [$HO $D23]
  iintro ⟨HO, M3, ZS23⟩
  iapply step_ret
  iapply (step_got m K c 18 (true, 2, 3) (by decide) rfl (comeY m c 3) (by rfl)) $$ [$HO $R23]
  iintro ⟨HO, G3, ZR23⟩
  iapply step_ret
  iapply step_ret
  iapply (step_got m K c 18 (false, 3, 3) (by decide) rfl (backE m c) (by rfl)) $$ [$HO $D33]
  iintro ⟨HO, E3, ZS33⟩
  iapply step_ret
  iapply (step_got m K c 18 (true, 3, 3) (by decide) rfl (comeD m c 3) (by rfl)) $$ [$HO $R33]
  iintro ⟨HO, H3, ZR33⟩
  iapply step_ret
  iapply step_ret
  ihave P0 := (rejoin m c 0 (by decide)) $$ [$L0 $M0]
  ihave P1 := (rejoin m c 1 (by decide)) $$ [$L1 $M1]
  ihave P2 := (rejoin m c 2 (by decide)) $$ [$L2 $M2]
  ihave P3 := (rejoin3 m c) $$ [$L3 $M3 $E3]
  ihave C0 := (owns_any c (acM 0) _) $$ [$C0]
  ihave C1 := (owns_any c (acM 1) _) $$ [$C1]
  ihave V0 := (owns_any c (rvM 0) _) $$ [$V0]
  ihave V1 := (owns_any c (rvM 1) _) $$ [$V1]
  ihave V2 := (owns_any c (rvM 2) _) $$ [$V2]
  ihave V3 := (owns_any c (rvM 3) _) $$ [$V3]
  iapply Hk
  unfold After Shuts four
  iframe

end Body

end Cert.Fused
end
-- ==== Proof.Deal.lean ====
/-
  What the launch deals the devices: the shared cells' rounds, the rights to raise them, dealt to the devices that will,
  and the credit every device has against what the others owe it.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Conjunctions over the cells -/

/-- One for each transfer. -/
def each (Φ : Fin 4 → Fin 4 → sProp 𝕄) : sProp 𝕄 := bigSep Finset.univ fun s => bigSep Finset.univ fun j => Φ s j

theorem bigSep_four (Φ : Fin 4 → sProp 𝕄) : bigSep Finset.univ Φ = four Φ := bigSep_univ_eq_bigSepL [0, 1, 2, 3] (by decide) (by decide) Φ
theorem each_four (Φ : Fin 4 → Fin 4 → sProp 𝕄) : each Φ = four fun s => four (Φ s) := by
  unfold each; rw [bigSep_four]; simp only [bigSep_four]
theorem each_sep (Φ Ψ : Fin 4 → Fin 4 → sProp 𝕄) : each (fun s j => iprop(Φ s j ∗ Ψ s j)) = iprop(each Φ ∗ each Ψ) := by
  unfold each; simp only [bigSep_sep']

theorem sep_swap (P Q : sProp 𝕄) : iprop(P ∗ Q) = iprop(Q ∗ P) := by
  have h (P Q : sProp 𝕄) : iprop(P ∗ Q) ⊢ iprop(Q ∗ P) := by iintro ⟨H1, H2⟩; iframe
  exact BI.equiv_iff.mp ⟨h _ _, h _ _⟩
theorem sep_last (P Q R : sProp 𝕄) : iprop((P ∗ Q) ∗ R) = iprop(R ∗ P ∗ Q) := sep_swap _ _

/-- A device's cells: the barrier's, the transfers' source sides, their target sides. -/
theorem bigSep_cells (Φ : Cell → sProp 𝕄) :
    bigSep Finset.univ Φ = iprop(Φ none ∗ each (fun s j => Φ (snd s j)) ∗ each (fun s j => Φ (rcv s j))) := by
  rw [bigSep_univ_equiv (Equiv.optionEquivSumPUnit.{0, 0} (Bool × Fin 4 × Fin 4)).symm Φ, bigSep_univ_sum, bigSep_univ_of_subsingleton PUnit.unit,
    bigSep_univ_prod, bigSep_univ_eq_bigSepL [false, true] (by decide) (by decide), bigSepL_cons_cons, bigSepL_singleton, bigSep_univ_prod, bigSep_univ_prod]
  exact sep_last _ _ _

/-! ## The cells and their tokens -/

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_inj (congrArg Prod.snd h)
  rw [h1, h2]
def cellSet : Finset (GSem nD τ sig) := Finset.univ.map ⟨kcell, kcell_injective⟩

/-- A device's cells' rights: its barrier's second, and every cell's first. -/
def tokOf (x : Dev nD × Option Cell) : GSem nD τ sig × ℕ × Bool := match x.2 with
  | none => (kcell (x.1, none), 0, true) | some k => (kcell (x.1, k), 0, false)
theorem tokOf_injective : Function.Injective tokOf := by
  rintro ⟨c, k⟩ ⟨c', k'⟩ h
  have hb : (tokOf (c, k)).2.2 = (tokOf (c', k')).2.2 := congrArg (fun x => x.2.2) h
  have hc : (tokOf (c, k)).1 = (tokOf (c', k')).1 := congrArg (fun x => x.1) h
  rcases k with _ | k <;> rcases k' with _ | k'
  · have := kcell_injective hc; cases this; rfl
  · exact absurd (show true = false from hb) (by decide)
  · exact absurd (show false = true from hb) (by decide)
  · have := kcell_injective hc; cases this; rfl
def tokSet : Finset (GSem nD τ sig × ℕ × Bool) := Finset.univ.map ⟨tokOf, tokOf_injective⟩

def u₀ : UU :=
  (initOf (Pipeline.cells cfgs cellOf_inj) (Pipeline.launchToks cfgs cellOf_inj), (initOf cellSet tokSet, 1))

/-- The launch's resources apart: the pipeline's rounds and the protocol's. -/
theorem ownU_split : (ownU u₀ : sProp 𝕄)
    ⊢ iprop(BI.own (EP (F := F) (initOf (Pipeline.cells cfgs cellOf_inj) (Pipeline.launchToks cfgs cellOf_inj))) ∗ BI.own (ER (F := F) (initOf cellSet tokSet))) :=
  ownU_pair _ _

variable (m : Mem F)

/-- The rights a device's own cells come with. -/
def toks (c : Dev nD) : sProp 𝕄 :=
  iprop(dutyTok ER (kcell (c, none)) 0 true ∗ bigSep Finset.univ fun k : Cell => dutyTok ER (kcell (c, k)) 0 false)

/-- What the launch deals device `c`. -/
def G (c : Dev nD) : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ toks (F := F) c)

theorem over_cells (Φ : GSem nD τ sig → sProp 𝕄) :
    bigSep cellSet Φ = bigSep Finset.univ fun c : Dev nD => bigSep Finset.univ fun k : Cell => Φ (kcell (c, k)) := by
  unfold cellSet; rw [bigSep_map, bigSep_univ_prod]; rfl

theorem over_toks : bigSep tokSet (fun x => (dutyTok ER x.1 x.2.1 x.2.2 : sProp 𝕄)) = bigSep Finset.univ fun c : Dev nD => toks (F := F) c := by
  unfold tokSet
  rw [bigSep_map, bigSep_univ_prod]
  refine bigSep_congr fun c _ => ?_
  unfold toks
  rw [bigSep_univ_equiv (Equiv.optionEquivSumPUnit.{0, 0} Cell).symm, bigSep_univ_sum, bigSep_univ_of_subsingleton PUnit.unit, sep_swap]
  rfl

theorem fund_cells : BI.own (ER (initOf cellSet tokSet)) ⊢ (|==> bigSep Finset.univ (G m) : sProp 𝕄) := by
  iintro HX
  imod (Rounds.fund ER (Rd m) cellSet tokSet) $$ HX with ⟨Hst, Hr, Hat, Htok⟩
  imodintro
  ihave Hst' := (Entails.of_eq (over_cells fun g => roundState ER (Rd m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The semaphores at launch -/

/-- The kernel's own semaphores: every one but the staging's. -/
abbrev osem : Fin 36 → SemLoc sig := fun i => .dma ⟨i.val + 1, by revert i; decide⟩
theorem ownSemFacts : Pipeline.OwnSemFacts cfg0.spec osem := by decide

/-- The four semaphores of the local transfers at rest. -/
def locals (c : Dev nD) : sProp 𝕄 :=
  iprop(semVal ((c : Thread nD τ), SemLoc.dma (saS 0)) 0 ∗ semVal ((c : Thread nD τ), SemLoc.dma (saS 1)) 0
    ∗ semVal ((c : Thread nD τ), SemLoc.dma (swS 0)) 0 ∗ semVal ((c : Thread nD τ), SemLoc.dma (swS 1)) 0)

/-- Which semaphore each is. -/
def osemE : (Fin 4) ⊕ ((Fin 4 × Fin 4) ⊕ (Fin 4 × Fin 4)) ≃ Fin 36 where
  toFun
    | .inl i => ⟨i.val, by omega⟩
    | .inr (.inl x) => ⟨4 + 4 * x.1.val + x.2.val, by omega⟩
    | .inr (.inr x) => ⟨20 + 4 * x.1.val + x.2.val, by omega⟩
  invFun i := if h : i.val < 4 then .inl ⟨i.val, h⟩
    else if i.val < 20 then .inr (.inl (⟨(i.val - 4) / 4 % 4, Nat.mod_lt _ (by decide)⟩, ⟨(i.val - 4) % 4, Nat.mod_lt _ (by decide)⟩))
    else .inr (.inr (⟨(i.val - 20) / 4 % 4, Nat.mod_lt _ (by decide)⟩, ⟨(i.val - 20) % 4, Nat.mod_lt _ (by decide)⟩))
  left_inv x := by revert x; decide
  right_inv i := by revert i; decide

theorem ownSems0_eq (c : Dev nD) : (Pipeline.ownSems0 (Ix := Unit) (Name := ℕ) (U := UU) (Lvl := ℕ) (Val := Elt F) (τ := τ) osem c : sProp 𝕄)
    = iprop(locals (F := F) c ∗ each (fun s j => Shut (F := F) c (snd s j)) ∗ each (fun s j => Shut (F := F) c (rcv s j))) := by
  unfold Pipeline.ownSems0
  rw [bigSep_univ_equiv osemE, bigSep_univ_sum, bigSep_univ_sum, bigSep_univ_prod, bigSep_univ_prod, bigSep_four]
  have hs (s j : Fin 4) : osem (osemE (.inr (.inl (s, j)))) = csem (snd s j) := by revert s j; decide
  have hr (s j : Fin 4) : osem (osemE (.inr (.inr (s, j)))) = csem (rcv s j) := by revert s j; decide
  simp only [hs, hr]
  rfl

theorem unscopedSems0_eq (c : Dev nD) : (unscopedSems0 c : sProp 𝕄) = Shut (F := F) c none := by
  unfold unscopedSems0; rw [bigSep_eq_bigSepL_of_eq [SemLoc.reg barS] (by decide) (by decide)]; rfl

/-- Every device's cells opened as rounds; the local transfers' semaphores stay as they are. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ locals (F := F) c) := by
  have hv : iprop(Shut (F := F) c none ∗ each (fun s j => Shut (F := F) c (snd s j)) ∗ each (fun s j => Shut (F := F) c (rcv s j)))
      ⊢ (bigSep Finset.univ fun k : Cell => semVal (kcell (c, k)) 0 : sProp 𝕄) := by
    rw [bigSep_cells]; exact BI.Entails.refl _
  rw [ownSems0_eq, unscopedSems0_eq]
  unfold G
  iintro ⟨⟨Hl, HS, HR⟩, HB, Hst, Hat, Htok⟩
  ihave Hv := hv $$ [HB HS HR]
  · isplitl [HB]; · iexact HB
    isplitl [HS] <;> iassumption
  imod (show iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## The rights dealt to the devices that use them -/

def xnE : Dev nD ≃ Dev nD := ⟨xn, xn, xn_xn, xn_xn⟩
def ynE : Dev nD ≃ Dev nD := ⟨yn, yn, yn_yn, yn_yn⟩
theorem tgt_tgt (s j : Fin 4) (c : Dev nD) : tgt (tgt c s j) s j = c := by revert c s j; decide
def tgtE (s j : Fin 4) : Dev nD ≃ Dev nD := ⟨fun c => tgt c s j, fun c => tgt c s j, tgt_tgt s j, tgt_tgt s j⟩

/-- The rights device `c` uses. -/
def payToks (c : Dev nD) : sProp 𝕄 :=
  iprop(dutyTok ER (kcell (yn c, none)) 0 true ∗ dutyTok ER (kcell (xn c, none)) 0 false
    ∗ each (fun s j => dutyTok ER (kcell (c, snd s j)) 0 false) ∗ each (fun s j => dutyTok ER (kcell (tgt c s j, rcv s j)) 0 false))

theorem each_around (Φ : Dev nD → Fin 4 → Fin 4 → sProp 𝕄) :
    bigSep Finset.univ (fun c : Dev nD => each (Φ c)) = bigSep Finset.univ fun c : Dev nD => each fun s j => Φ (tgt c s j) s j := by
  have swap (Ψ : Dev nD → Fin 4 → Fin 4 → sProp 𝕄) : bigSep Finset.univ (fun c : Dev nD => each (Ψ c)) = each fun s j => bigSep Finset.univ fun c : Dev nD => Ψ c s j := by
    unfold each; rw [bigSep_univ_comm]; exact bigSep_congr fun s _ => bigSep_univ_comm _
  rw [swap, swap]
  unfold each
  exact bigSep_congr fun s _ => bigSep_congr fun j _ => bigSep_univ_equiv (tgtE s j) (fun c => Φ c s j)

theorem toks_around : (bigSep Finset.univ fun c : Dev nD => (toks (F := F) c : sProp 𝕄)) ⊢ bigSep Finset.univ fun c : Dev nD => payToks (F := F) c := by
  unfold toks payToks
  simp only [bigSep_cells]
  rw [bigSep_sep', bigSep_sep', bigSep_sep', bigSep_sep', bigSep_sep', bigSep_sep',
    bigSep_univ_equiv ynE (fun c : Dev nD => (dutyTok ER (kcell (c, none)) 0 true : sProp 𝕄)),
    bigSep_univ_equiv xnE (fun c : Dev nD => (dutyTok ER (kcell (c, none)) 0 false : sProp 𝕄)),
    each_around (fun c s j => (dutyTok ER (kcell (c, rcv s j)) 0 false : sProp 𝕄))]
  exact BI.Entails.refl _

/-! ## What each device starts with -/

/-- The records without the levels, -/
def cellRecs (K : Dev nD × Cell → ℕ) : sProp 𝕄 :=
  iprop((bigSep Finset.univ fun ck : Dev nD × Cell => cellInv ER (Rd m) (K ck) (kcell ck))
    ∗ bigSep Finset.univ fun ck : Dev nD × Cell => (reached ER (kcell ck) 0 : sProp 𝕄))
instance cellRecs_persistent (K : Dev nD × Cell → ℕ) : BI.Persistent (cellRecs m K) := by unfold cellRecs; infer_instance

/-- the rights and places of device `c`, -/
def linear (c : Dev nD) : sProp 𝕄 :=
  iprop(dutyTok ER (kcell (xn c, none)) 0 false ∗ dutyTok ER (kcell (yn c, none)) 0 true ∗ atPos ER (kcell (c, none)) 0 ∅ 0
    ∗ Toks (F := F) c ∗ each (fun s j => atPos ER (kcell (c, rcv s j)) 0 ∅ 0) ∗ locals (F := F) c)

/-- and both. -/
def G' (c : Dev nD) : sProp 𝕄 := iprop(∃ K, cellRecs m K ∗ linear (F := F) c)

theorem Toks_eq (c : Dev nD) : Toks (F := F) c = each (fun s j => Tok (F := F) c s j) := by rw [each_four]; rfl

theorem linear_intro (c : Dev nD) :
    iprop((bigSep Finset.univ fun k : Cell => atPos ER (kcell (c, k)) 0 ∅ 0) ∗ payToks (F := F) c ∗ locals (F := F) c) ⊢ linear (F := F) c := by
  unfold linear payToks
  rw [Toks_eq, bigSep_cells]
  unfold Tok
  rw [each_sep, each_sep]
  iintro ⟨⟨P1, P2, P3⟩, ⟨T1, T2, T3, T4⟩, Hl⟩
  iframe

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ locals (F := F) c) : sProp 𝕄)
      ⊢ bigSep Finset.univ (G' m) := by
  rw [bigSep_sep', bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok, Hl⟩
  ihave HK := (BI.bigSep_exists_pi Finset.univ (fun (ck : Dev nD × Cell) (κ : ℕ) => (cellInv ER (Rd m) κ (kcell ck) : sProp 𝕄))) $$ HI
  icases HK with ⟨%K, #HI⟩
  ihave Htk := (toks_around (F := F)) $$ Htok
  iapply (bigSep_with_persistent (R := cellRecs m K) (Φ := fun c => linear (F := F) c) fun c _ => (show iprop(cellRecs m K ∗ linear (F := F) c) ⊢ G' m c from by
    unfold G'; iintro ⟨#H, H'⟩; iexists K; isplitr; · iexact H
    iexact H'))
  isplitr
  · unfold cellRecs; isplitl; · iexact HI
    iexact HR
  · iapply ((show iprop((bigSep Finset.univ fun c : Dev nD => bigSep Finset.univ fun k : Cell => (atPos ER (kcell (c, k)) 0 ∅ 0 : sProp 𝕄))
        ∗ (bigSep Finset.univ fun c : Dev nD => payToks (F := F) c) ∗ bigSep Finset.univ fun c : Dev nD => locals (F := F) c) ⊢ bigSep Finset.univ fun c : Dev nD => linear (F := F) c from by
      rw [← bigSep_sep', ← bigSep_sep']; exact bigSep_mono fun c _ => linear_intro c))
    isplitl [Hat]; · iexact Hat
    isplitl [Htk]; · iexact Htk
    iexact Hl

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem drop_mid (P Q R : sProp 𝕄) : iprop(P ∗ Q ∗ R) ⊢ iprop(P ∗ R) := by
  iintro ⟨H1, -, H2⟩; iframe

/-- What a list of payments owes a cell: its payments there. -/
theorem sum_at (l : List (Dev nD × Cell)) (y : Dev nD × Cell) : (l.map tally).sum (kcell y) () = amt y.2 * l.count y := by
  induction l with
  | nil => rfl
  | cons x l ih =>
    rw [List.map_cons, List.sum_cons, Pi.add_apply, Finsupp.add_apply, ih, List.count_cons]
    unfold tally
    rw [tallyAt_apply]
    by_cases h : x = y
    · subst h; rw [if_pos ⟨rfl, rfl⟩]; simp only [beq_self_eq_true, if_true]; ring
    · have h' : ¬ (x == y) = true := fun e => h (eq_of_beq e)
      rw [if_neg fun e => h (kcell_injective e.1).symm, if_neg h']; ring

/-- What all devices together owe a cell. -/
def want : Cell → ℕ
  | none => 2 | some (false, _, _) => 0 | some (true, _, _) => NB

theorem owed_all (c : Dev nD) (k : Cell) : ∑ d : Dev nD, Ow d 0 (kcell (c, k)) () = want k := by
  have h : ∀ (c : Dev nD) (k : Cell), ∑ d : Dev nD, (items d).count (c, k) = (match k with | none => 2 | some (false, _, _) => 0 | some (true, _, _) => 1) := by decide
  have e : ∀ d : Dev nD, Ow d 0 (kcell (c, k)) () = amt k * (items d).count (c, k) := fun d => by
    unfold Ow; rw [List.drop_zero]; exact sum_at (items d) (c, k)
  rw [Finset.sum_congr rfl fun d _ => e d, ← Finset.mul_sum, h c k]
  rcases k with _ | ⟨b, s, j⟩
  · rfl
  · cases b
    · rfl
    · exact Nat.mul_one _

theorem launch_cell (c : Dev nD) (k : Cell) :
    tallyOn (kcell (c, k)) (launchCredit (Pipeline.owing fun d => Ow d 0) 0 (kcell (c, k))) = (tallyAt (kcell (c, k)) () (want k) : CellTallies nD τ sig Unit) := by
  unfold tallyAt; refine congrArg _ (Finsupp.ext fun u => ?_); cases u
  rw [Pipeline.launchCredit_owing, Finsupp.single_eq_same, owed_all]

theorem creds (c : Dev nD) :
    (Pipeline.launchCred (fun d => Ow d 0) c : sProp 𝕄)
      ⊢ iprop(cred (tallyAt (kcell (c, none)) () 2) ∗ each fun s j => cred (tallyAt (kcell (c, rcv s j)) () NB)) := by
  have hinj : Function.Injective csem := fun _ _ h => csem_inj h
  have hmap : (Finset.univ : Finset Cell).map ⟨csem, hinj⟩ ⊆ Finset.univ := Finset.subset_univ _
  unfold Pipeline.launchCred
  refine (bigSep_subset hmap).trans ?_
  rw [bigSep_map, bigSep_cells]
  have h (k : Cell) : (cred (tallyOn ((c.tc : Thread nD τ), (⟨csem, hinj⟩ : Cell ↪ SemLoc sig) k)
      (launchCredit (Pipeline.owing fun d => Ow d 0) 0 ((c.tc : Thread nD τ), (⟨csem, hinj⟩ : Cell ↪ SemLoc sig) k))) : sProp 𝕄) = cred (tallyAt (kcell (c, k)) () (want k)) :=
    congrArg cred (launch_cell c k)
  simp only [h]
  exact drop_mid _ _ _

end Cert.Fused

end
-- ==== Proof.Pieces.lean ====
/-
  Each device's buffers cut into the pieces the body works on, and put together again.
-/
module

public import proofs.«01_k».proof.Proof.Deal

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Any contents, cut -/

section Cut
variable {sp : Space} {sh : Shape} {e : EltTy} {T : Type} [Fintype T] [DecidableEq T] (c : Dev nD) (x : Memref sig .tc sp sh e)
  (r : T → Rect sh) (hr : ∀ t a, (r t).stride a = 1) (hd : ∀ t t', t ≠ t' → Disjoint (r t).set (r t').set) (hm : ∀ i, ∃ t, i ∈ (r t).set)
include hd

/-- Contents of disjoint pieces are those of one array. -/
theorem glue (Y : (t : T) → (r t).shape.Idx → Elt F e) : ∃ X : sh.Idx → Elt F e, ∀ t j, X ((r t).emb j) = Y t j := by
  have hinj : Function.Injective fun p : (Σ t : T, (r t).shape.Idx) => (r p.1).emb p.2 := by
    rintro ⟨t, j⟩ ⟨t', j'⟩ h
    by_cases ht : t = t'
    · subst ht; exact congrArg (Sigma.mk t) ((r t).emb.injective h)
    · exact absurd (show (r t).idx j = (r t').idx j' from h) fun h => Finset.disjoint_left.mp (hd t t' ht) ((r t).idx_mem j) (h ▸ (r t').idx_mem j')
  exact ⟨Function.extend (fun p : (Σ t : T, (r t).shape.Idx) => (r p.1).emb p.2) (fun p => Y p.1 p.2) (fun _ => Classical.arbitrary _),
    fun t j => hinj.extend_apply (fun p => Y p.1 p.2) _ ⟨t, j⟩⟩

include hm
theorem covers : (Finset.univ : Finset T).biUnion (fun t => (r t).set) = Finset.univ :=
  Finset.eq_univ_of_forall fun i => Finset.mem_biUnion.mpr ((hm i).imp fun t h => ⟨Finset.mem_univ t, h⟩)

theorem any_cut : anyOf (F := F) c x ⊢ bigSep Finset.univ fun t => anyOf (F := F) c (x.slice (r t) (hr t)) := by
  unfold anyOf
  iintro ⟨%X, H⟩
  iapply ((owns_rects (c : Thread nD τ) x fullShare r hr hd (covers r hd hm) X).trans (bigSep_mono fun t _ =>
    (show _ ⊢ iprop(∃ X, owns (c : Thread nD τ) (x.slice (r t) (hr t)) fullShare X) from by iintro H; iexists _; iexact H)))
  iexact H

theorem any_join : (bigSep Finset.univ fun t => anyOf (F := F) c (x.slice (r t) (hr t))) ⊢ anyOf (F := F) c x := by
  unfold anyOf
  iintro H
  ihave H' := (BI.bigSep_exists_pi Finset.univ (fun (t : T) (X : (r t).shape.Idx → Elt F e) => (owns (c : Thread nD τ) (x.slice (r t) (hr t)) fullShare X : sProp 𝕄))) $$ H
  icases H' with ⟨%Y, H⟩
  obtain ⟨X, hX⟩ := glue r hd Y
  iexists X
  iapply (owns_of_rects (c : Thread nD τ) x fullShare r hr hd (covers r hd hm) X)
  iapply (Entails.of_eq (bigSep_congr (s := Finset.univ) fun t _ =>
    congrArg (fun Z => (owns (c : Thread nD τ) (x.slice (r t) (hr t)) fullShare Z : sProp 𝕄)) (funext fun j => (hX t j).symm)))
  iexact H

theorem any_pieces : anyOf (F := F) c x = bigSep Finset.univ fun t => anyOf (F := F) c (x.slice (r t) (hr t)) :=
  BI.equiv_iff.mp ⟨any_cut c x r hr hd hm, any_join c x r hr hd hm⟩
end Cut

/-- A whole buffer at any contents. -/
theorem any_whole (c : Dev nD) (b : Ref sig .tc) :
    iprop(∃ f : Buf (Elt F) ((c : Thread nD τ).loc b), ((c : Thread nD τ).loc b) ↦{fullShare} f) = anyOf (F := F) c (Memref.whole b) := by
  unfold anyOf owns
  simp only [Memref.view_whole, View.read_whole, View.set_whole]
  have h₁ : iprop(∃ f : Buf (Elt F) ((c : Thread nD τ).loc b), ((c : Thread nD τ).loc b) ↦{fullShare} f)
      ⊢ (iprop(∃ X, ∃ f : Buf (Elt F) ((c : Thread nD τ).loc b), ⌜f = X⌝ ∗ (((c : Thread nD τ).loc b) ↦{fullShare} f)) : sProp 𝕄) := by
    iintro ⟨%f, H⟩; iexists f; iexists f; isplitr; · ipureintro; rfl
    iexact H
  have h₂ : (iprop(∃ X, ∃ f : Buf (Elt F) ((c : Thread nD τ).loc b), ⌜f = X⌝ ∗ (((c : Thread nD τ).loc b) ↦{fullShare} f)) : sProp 𝕄)
      ⊢ iprop(∃ f : Buf (Elt F) ((c : Thread nD τ).loc b), ((c : Thread nD τ).loc b) ↦{fullShare} f) := by
    iintro ⟨%X, %f, -, H⟩; iexists f; iexact H
  exact BI.equiv_iff.mp ⟨h₁, h₂⟩

/-! ## The slots -/

section Slot
variable {A B : ℕ} (inb : ∀ (s : Fin 2) a, (![s.val, 0, 0] : Fin 3 → ℕ) a + (![1, A, B] : Fin 3 → ℕ) a ≤ (![2, A, B] : Fin 3 → ℕ) a)

theorem slot_disjoint (s s' : Fin 2) (h : s ≠ s') :
    Disjoint (Rect.unit (s := ⟨3, ![2, A, B]⟩) ![s.val, 0, 0] ![1, A, B] (inb s)).set (Rect.unit (s := ⟨3, ![2, A, B]⟩) ![s'.val, 0, 0] ![1, A, B] (inb s')).set :=
  Rect.disjoint_of_axis _ _ 0 fun j₁ h₁ j₂ h₂ e => h (Fin.ext (by
    have e' : s.val + 1 * j₁ = s'.val + 1 * j₂ := e
    have h₁' : j₁ < 1 := h₁
    have h₂' : j₂ < 1 := h₂
    omega))
theorem slot_mem (i : (⟨3, ![2, A, B]⟩ : Shape).Idx) : ∃ s : Fin 2, i ∈ (Rect.unit (s := ⟨3, ![2, A, B]⟩) ![s.val, 0, 0] ![1, A, B] (inb s)).set := by
  have h0 : (i 0).val < 2 := (i 0).isLt
  have h1 : (i 1).val < A := (i 1).isLt
  have h2 : (i 2).val < B := (i 2).isLt
  refine ⟨⟨(i 0).val, h0⟩, Rect.mem_set_unit.mpr fun a => ?_⟩
  match a with
  | 0 => exact ⟨Nat.le_refl _, Nat.lt_succ_self _⟩
  | 1 => exact ⟨Nat.zero_le _, by show (i 1).val < 0 + A; omega⟩
  | 2 => exact ⟨Nat.zero_le _, by show (i 2).val < 0 + B; omega⟩
end Slot

theorem bigSep_two (Φ : Fin 2 → sProp 𝕄) : bigSep Finset.univ Φ = iprop(Φ 0 ∗ Φ 1) := bigSep_univ_eq_bigSepL [0, 1] (by decide) (by decide) Φ

theorem as_slots (c : Dev nD) : anyOf (F := F) c asA = iprop(anyOf (F := F) c (asM 0) ∗ anyOf (F := F) c (asM 1)) :=
  (any_pieces c asA asR (fun _ _ => rfl) (slot_disjoint _) (slot_mem _)).trans (bigSep_two _)
theorem ws_slots (c : Dev nD) : anyOf (F := F) c wsA = iprop(anyOf (F := F) c (wsM 0) ∗ anyOf (F := F) c (wsM 1)) :=
  (any_pieces c wsA wsR (fun _ _ => rfl) (slot_disjoint _) (slot_mem _)).trans (bigSep_two _)
theorem ac_slots (c : Dev nD) : anyOf (F := F) c acA = iprop(anyOf (F := F) c (acM 0) ∗ anyOf (F := F) c (acM 1)) :=
  (any_pieces c acA acR (fun _ _ => rfl) (slot_disjoint _) (slot_mem _)).trans (bigSep_two _)
theorem rs_slots (c : Dev nD) : anyOf (F := F) c rsA = iprop(anyOf (F := F) c (rsM 0) ∗ anyOf (F := F) c (rsM 1)) :=
  (any_pieces c rsA rsR (fun _ _ => rfl) (slot_disjoint _) (slot_mem _)).trans (bigSep_two _)

/-! ## The blocks -/

theorem rv_disjoint (j j' : Fin 4) (h : j ≠ j') : Disjoint (rvR j).set (rvR j').set :=
  Rect.disjoint_of_axis _ _ 1 fun j₁ h₁ j₂ h₂ e => h (Fin.ext (by
    have e' : 512 * j.val + 1 * j₁ = 512 * j'.val + 1 * j₂ := e
    have h₁' : j₁ < 512 := h₁
    have h₂' : j₂ < 512 := h₂
    omega))
theorem rv_mem (i : S512x2048.Idx) : ∃ j : Fin 4, i ∈ (rvR j).set := by
  have h0 : (i 0).val < 512 := (i 0).isLt
  have h1 : (i 1).val < 2048 := (i 1).isLt
  refine ⟨⟨(i 1).val / 512, by omega⟩, Rect.mem_set_unit.mpr fun a => ?_⟩
  match a with
  | 0 => exact ⟨Nat.zero_le _, by show (i 0).val < 0 + 512; omega⟩
  | 1 => exact ⟨by show 512 * ((i 1).val / 512) ≤ (i 1).val; omega, by show (i 1).val < 512 * ((i 1).val / 512) + 512; omega⟩
theorem rv_blocks (c : Dev nD) : anyOf (F := F) c rvA = four fun j => anyOf (F := F) c (rvM j) :=
  (any_pieces c rvA rvR (fun _ _ => rfl) rv_disjoint rv_mem).trans (bigSep_four _)

/-- The blocks of the result. -/
def oB (t : Fin 4 × Fin 4) : Rect S2048x2048 := oR t.1 t.2

theorem o_disjoint (t t' : Fin 4 × Fin 4) (h : t ≠ t') : Disjoint (oB t).set (oB t').set := by
  by_cases hq : t.1 = t'.1
  · refine Rect.disjoint_of_axis _ _ 1 fun j₁ h₁ j₂ h₂ e => h (Prod.ext hq (Fin.ext ?_))
    have e' : 512 * t.2.val + 1 * j₁ = 512 * t'.2.val + 1 * j₂ := e
    have h₁' : j₁ < 512 := h₁
    have h₂' : j₂ < 512 := h₂
    omega
  · refine Rect.disjoint_of_axis _ _ 0 fun j₁ h₁ j₂ h₂ e => hq (Fin.ext ?_)
    have e' : 512 * t.1.val + 1 * j₁ = 512 * t'.1.val + 1 * j₂ := e
    have h₁' : j₁ < 512 := h₁
    have h₂' : j₂ < 512 := h₂
    omega
theorem o_mem (i : S2048x2048.Idx) : ∃ t, i ∈ (oB t).set := by
  have h0 : (i 0).val < 2048 := (i 0).isLt
  have h1 : (i 1).val < 2048 := (i 1).isLt
  have hq : ∃ q : Fin 4, q.val = (i 0).val / 512 := ⟨⟨(i 0).val / 512, by omega⟩, rfl⟩
  have hj : ∃ j : Fin 4, j.val = (i 1).val / 512 := ⟨⟨(i 1).val / 512, by omega⟩, rfl⟩
  obtain ⟨q, hq⟩ := hq
  obtain ⟨j, hj⟩ := hj
  refine ⟨(q, j), ?_⟩
  show i ∈ (oR q j).set
  refine Rect.mem_set_unit.mpr fun a => ?_
  match a with
  | 0 => exact ⟨by show 512 * q.val ≤ (i 0).val; omega, by show (i 0).val < 512 * q.val + 512; omega⟩
  | 1 => exact ⟨by show 512 * j.val ≤ (i 1).val; omega, by show (i 1).val < 512 * j.val + 512; omega⟩

/-- The four devices, as seen from one. -/
theorem bigSep_seen (c : Dev nD) (Φ : Fin 4 → sProp 𝕄) : bigSep Finset.univ Φ = iprop(Φ c ∗ Φ (xn c) ∗ Φ (yn c) ∗ Φ (dg c)) :=
  bigSep_univ_eq_bigSepL [c, xn c, yn c, dg c] (by revert c; decide) (by revert c; decide) Φ

theorem bigSep_blocks (c : Dev nD) (Φ : Fin 4 → Fin 4 → sProp 𝕄) :
    (bigSep Finset.univ fun t : Fin 4 × Fin 4 => Φ t.1 t.2) = iprop(four (Φ c) ∗ four (Φ (xn c)) ∗ four (Φ (yn c)) ∗ four (Φ (dg c))) := by
  rw [bigSep_univ_prod, bigSep_seen c]; simp only [bigSep_four]

theorem out_blocks (c : Dev nD) : anyOf (F := F) c oA
    = iprop(four (fun j => anyOf (F := F) c (oM c j)) ∗ four (fun j => anyOf (F := F) c (oM (xn c) j))
      ∗ four (fun j => anyOf (F := F) c (oM (yn c) j)) ∗ four (fun j => anyOf (F := F) c (oM (dg c) j))) :=
  (any_pieces c oA oB (fun _ _ => rfl) o_disjoint o_mem).trans (bigSep_blocks c fun q j => anyOf (F := F) c (oM q j))

/-! ## The result -/

section Out
variable (m : Mem F)

/-- The result, the same on every device: rows `512 q …`, columns `512 j …` are what device `q` finishes as its piece `j`. -/
def outF : S2048x2048.Idx → Elt F .bf16 := fun i =>
  sumV m ⟨(i 0).val / 512, by have h : (i 0).val < 2048 := (i 0).isLt; show _ < 4; omega⟩ ⟨(i 1).val / 512, by have h : (i 1).val < 2048 := (i 1).isLt; omega⟩
    (ix2 ⟨(i 0).val % 512, Nat.mod_lt _ (by decide)⟩ ⟨(i 1).val % 512, Nat.mod_lt _ (by decide)⟩)

theorem outF_block (q j : Fin 4) (y : S512x512.Idx) : outF m ((oR q j).emb y) = sumV m q j y := by
  have h0 : (y 0).val < 512 := (y 0).isLt
  have h1 : (y 1).val < 512 := (y 1).isLt
  have e0 : (((oR q j).emb y) 0).val = 512 * q.val + (y 0).val := unit_idx _ _ _ _ _
  have e1 : (((oR q j).emb y) 1).val = 512 * j.val + (y 1).val := unit_idx _ _ _ _ _
  unfold outF
  have eq : (⟨(((oR q j).emb y) 0).val / 512, by rw [e0]; have := q.isLt; show _ < 4; omega⟩ : Fin 4) = q := Fin.ext (by
    show (((oR q j).emb y) 0).val / 512 = q.val
    rw [e0]; omega)
  have ej : (⟨(((oR q j).emb y) 1).val / 512, by rw [e1]; have := j.isLt; omega⟩ : Fin 4) = j := Fin.ext (by
    show (((oR q j).emb y) 1).val / 512 = j.val
    rw [e1]; omega)
  have ey : (ix2 ⟨(((oR q j).emb y) 0).val % 512, Nat.mod_lt _ (by decide)⟩ ⟨(((oR q j).emb y) 1).val % 512, Nat.mod_lt _ (by decide)⟩ : S512x512.Idx) = y := by
    funext a
    match a with
    | 0 => exact Fin.ext (by show (((oR q j).emb y) 0).val % 512 = (y 0).val; rw [e0]; omega)
    | 1 => exact Fin.ext (by show (((oR q j).emb y) 1).val % 512 = (y 1).val; rw [e1]; omega)
  exact (congrArg (sumV m _ _) ey).trans (by rw [eq, ej])

/-- The finished pieces make up the result. -/
theorem out_join (c : Dev nD) :
    iprop(four (fun j => outP m c c j fullShare) ∗ four (fun j => outP m c (xn c) j fullShare)
      ∗ four (fun j => outP m c (yn c) j fullShare) ∗ four (fun j => outP m c (dg c) j fullShare))
    ⊢ owns (c : Thread nD τ) oA fullShare (outF m) := by
  rw [← bigSep_blocks c (fun q j => outP m c q j fullShare)]
  refine BI.Entails.trans (Entails.of_eq (bigSep_congr fun t _ => ?_)) (owns_of_rects (c : Thread nD τ) oA fullShare oB (fun _ _ => rfl) o_disjoint (covers oB o_disjoint o_mem) (outF m))
  exact congrArg (owns (c : Thread nD τ) (oM t.1 t.2) fullShare) (funext fun y => (outF_block m t.1 t.2 y).symm)

end Out

end Cert.Fused

end
-- ==== Proof.Launch.lean ====
/-
  The launch: the body on every device, from what the launch gives to what it takes back.
-/
module

public import proofs.«01_k».proof.Proof.Pieces
public import Idealize.ShloMosaic.Lib.Pipeline.CollectiveSegs
public import Idealize.ShloMosaic.Lib.Pipeline.ValueKit.Geometry
public import Idealize.ShloMosaic.Lib.Quiescent

@[expose] public section

set_option maxRecDepth 16384

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

open Idealize.ShloMosaic.Pipeline (Dat Cfg Window BodyObligation cellOf)

variable (m : Mem F) (ρ : Dev nD → PrngReg)

/-- The state at launch. -/
abbrev s₀ : MemSt nD τ sig (Elt F) := ⟨m, fun _ => 0, ρ⟩

/-! ## What the body starts from and leaves, at the launch -/

/-- A whole buffer at known contents. -/
theorem whole_eq (c : Dev nD) (b : Ref sig .tc) (X : b.ty.Contents (Elt F)) :
    (owns (c : Thread nD τ) (Memref.whole b) fullShare X : sProp 𝕄) = iprop(((c : Thread nD τ).loc b) ↦{fullShare} X) := by
  unfold owns
  simp only [Memref.view_whole, View.read_whole, View.set_whole]
  have h₁ : (iprop(∃ f : Buf (Elt F) ((c : Thread nD τ).loc b), ⌜f = X⌝ ∗ (((c : Thread nD τ).loc b) ↦{fullShare} f)) : sProp 𝕄)
      ⊢ iprop(((c : Thread nD τ).loc b) ↦{fullShare} X) := by
    iintro ⟨%f, %h, H⟩; subst h; iexact H
  have h₂ : iprop(((c : Thread nD τ).loc b) ↦{fullShare} X)
      ⊢ (iprop(∃ f : Buf (Elt F) ((c : Thread nD τ).loc b), ⌜f = X⌝ ∗ (((c : Thread nD τ).loc b) ↦{fullShare} f)) : sProp 𝕄) := by
    iintro H; iexists X; isplitr; · ipureintro; rfl
    iexact H
  exact BI.equiv_iff.mp ⟨h₁, h₂⟩

/-- The two argument arrays of device `c` as launched. -/
def args (c : Dev nD) : sProp 𝕄 := iprop(owns (c : Thread nD τ) hA fullShare (argA m c) ∗ owns (c : Thread nD τ) hW fullShare (argW m c))

/-- The body's working buffers. -/
def work (c : Dev nD) : sProp 𝕄 :=
  iprop(anyOf (F := F) c aA ∗ anyOf (F := F) c asA ∗ anyOf (F := F) c wsA ∗ anyOf (F := F) c acA ∗ anyOf (F := F) c rsA ∗ anyOf (F := F) c rvA)

theorem work_eq (c : Dev nD) : (Pipeline.scopedRest (Ix := Unit) (Name := ℕ) (U := UU) (Lvl := ℕ) (Val := Elt F) spec0 c : sProp 𝕄) = work (F := F) c := by
  rw [scopedRest0_eq]; simp only [any_whole]; rfl

/-- What device `c`'s body starts from besides its working buffers, -/
def start (c : Dev nD) : sProp 𝕄 :=
  iprop(G' m c ∗ levAts L lv ∗ (cred (tallyAt (kcell (c, none)) () 2) ∗ each fun s j => cred (tallyAt (kcell (c, rcv s j)) () NB)) ∗ args m c)
def Φ₀ (c : Dev nD) : sProp 𝕄 := iprop(start m c ∗ work (F := F) c)
/-- and leaves. -/
def Φ₁ (c : Dev nD) : sProp 𝕄 :=
  iprop((unscopedSems0 c ∗ args m c) ∗ Pipeline.ownSems0 (Ix := Unit) (Name := ℕ) (U := UU) (Lvl := ℕ) (Val := Elt F) (τ := τ) osem c ∗ work (F := F) c)

/-- The argument arrays' halves, one for each slot. -/
theorem args_halves (c : Dev nD) : args m c
    = iprop((owns (c : Thread nD τ) hA (hs 0) (argA m c) ∗ owns (c : Thread nD τ) hA (hs 1) (argA m c))
      ∗ owns (c : Thread nD τ) hW (hs 0) (argW m c) ∗ owns (c : Thread nD τ) hW (hs 1) (argW m c)) := by
  have hA' : (owns (c : Thread nD τ) hA fullShare (argA m c) : sProp 𝕄)
      = iprop(owns (c : Thread nD τ) hA (hs 0) (argA m c) ∗ owns (c : Thread nD τ) hA (hs 1) (argA m c)) :=
    BI.equiv_iff.mp ⟨(owns_halves (c : Thread nD τ) hA fullShare (argA m c)).1, (owns_halves (c : Thread nD τ) hA fullShare (argA m c)).2⟩
  have hW' : (owns (c : Thread nD τ) hW fullShare (argW m c) : sProp 𝕄)
      = iprop(owns (c : Thread nD τ) hW (hs 0) (argW m c) ∗ owns (c : Thread nD τ) hW (hs 1) (argW m c)) :=
    BI.equiv_iff.mp ⟨(owns_halves (c : Thread nD τ) hW fullShare (argW m c)).1, (owns_halves (c : Thread nD τ) hW fullShare (argW m c)).2⟩
  unfold args; rw [hA', hW']

/-- No piece of the rounded rows is in place yet. -/
theorem ab_start (c : Dev nD) : anyOf (F := F) c aA ⊢ AB m c 0 := by
  unfold anyOf AB
  iintro ⟨%X, H⟩; iexists X; isplitr
  · ipureintro; exact fun i h => absurd h (by omega)
  iexact H
theorem ab_end (c : Dev nD) : AB m c 8 ⊢ anyOf (F := F) c aA := by
  unfold anyOf AB
  iintro ⟨%X, -, H⟩; iexists X; iexact H

theorem barX_own (c : Dev nD) : barX (F := F) (xn c) = iprop(four (fun j => anyOf (F := F) c (oM (xn c) j)) ∗ four (fun j => anyOf (F := F) c (oM (dg c) j))) := by
  unfold barX; rw [xn_xn, yn_xn]
theorem barY_own (c : Dev nD) : barY (F := F) (yn c) = iprop(four (fun j => anyOf (F := F) c (oM (yn c) j)) ∗ four (fun j => anyOf (F := F) c (rvM j))) := by
  unfold barY; rw [yn_yn]

theorem Dues_eq (c : Dev nD) : Dues (F := F) c = iprop(each (fun s j => cred (tallyAt (kcell (c, rcv s j)) () NB)) ∗ each (fun s j => atPos ER (kcell (c, rcv s j)) 0 ∅ 0)) := by
  rw [← each_sep, each_four]; rfl

theorem Shuts_eq (c : Dev nD) : Shuts (F := F) c ⊢ iprop(each (fun s j => Shut (F := F) c (snd s j)) ∗ each (fun s j => Shut (F := F) c (rcv s j))) := by
  unfold Shuts; rw [each_four, each_four]; unfold four
  iintro ⟨H1, H2, H3, H4, H5, H6, H7, H8⟩
  iframe

set_option maxHeartbeats 1000000 in
/-- The launch gives what the body starts from. -/
theorem enter (c : Dev nD) (W : Finset (SemLoc sig × Unit)) :
    iprop(Φ₀ m c ∗ owes (c : Thread nD τ) (Ow c 0) W ∗ anyOf (F := F) c oA) ⊢ iprop(∃ K, Before m K c) := by
  unfold Φ₀ start work G' linear locals Before Ows Recs cellRecs AIdle WIdle Due
  rw [as_slots, ws_slots, ac_slots, rs_slots, rv_blocks, out_blocks, args_halves, barX_own, barY_own, Dues_eq]
  iintro ⟨⟨⟨⟨%K, ⟨#HI, #HR⟩, KX, KY, PB, HT, HP, Z0, Z1, Z2, Z3⟩, #HL, ⟨HB, HC⟩, ⟨A0, A1⟩, W0, W1⟩, HA, ⟨S0, S1⟩, ⟨S2, S3⟩, ⟨S4, S5⟩, ⟨S6, S7⟩, HV⟩, HO, O1, O2, O3, O4⟩
  iexists K
  ihave HA := (ab_start m c) $$ HA
  isplitl [HO]
  · isplitr
    · isplitr; · iexact HL
      isplitr; · iexact HI
      iexact HR
    iexists W; iexact HO
  iframe

set_option maxHeartbeats 1000000 in
/-- What the body leaves is what the launch takes back, and the result. -/
theorem leave (K : Dev nD × Cell → ℕ) (c : Dev nD) :
    After m K c ⊢ iprop(Φ₁ m c ∗ (∃ W, owes (c : Thread nD τ) 0 W) ∗ owns (c : Thread nD τ) oA fullShare (outF m)) := by
  unfold Φ₁ work After Ows AIdle WIdle
  rw [as_slots, ws_slots, ac_slots, rs_slots, rv_blocks, args_halves, ownSems0_eq, unscopedSems0_eq]
  unfold locals
  iintro ⟨⟨-, HO⟩, ⟨A0, S0, Z0⟩, ⟨A1, S1, Z1⟩, ⟨W0, S2, Z2⟩, ⟨W1, S3, Z3⟩, HA, S4, S5, S6, S7, HV, O1, O2, O3, O4, ZB, ZS⟩
  ihave HA := (ab_end m c) $$ HA
  ihave ZS := (Shuts_eq c) $$ ZS
  ihave HX := (out_join m c) $$ [O1 O2 O3 O4]
  · iframe
  icases ZS with ⟨ZS, ZR⟩
  isplitl [A0 A1 W0 W1 S0 S1 S2 S3 S4 S5 S6 S7 HA HV Z0 Z1 Z2 Z3 ZB ZS ZR]
  · iframe
  isplitl [HO]
  · iexact HO
  iexact HX

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m
  Φ t := match t with
    | ⟨0, _⟩ => Φ₀ m c
    | ⟨_ + 1, _⟩ => Φ₁ m c
  q _ := fullShare
  owed t := match t with
    | ⟨0, _⟩ => Ow c 0
    | ⟨_ + 1, _⟩ => 0

/-- The body on device `c`. -/
theorem body_obligation (c : Dev nD) : BodyObligation (dats (F := F) m ρ 0 c) (defs₀ (F := F)) 𝒱₀ () Set.univ := fun t => by
  rw [fin_N0 t]
  rw [bigSep_W0, bigSep_W0]
  show iprop(Φ₀ m c ∗ (dats m ρ 0 c).owesAt () t0_0.castSucc ∗ (∃ d, owns (c : Thread nD τ) oA fullShare ((dats m ρ 0 c).before (0 : Fin 1) t0_0 d)))
    ⊢ runs c (onBufs cc0_body) (fun _ => iprop(Φ₁ m c ∗ (dats m ρ 0 c).owesAt () t0_0.succ ∗ owns (c : Thread nD τ) oA fullShare (outF m)))
  unfold Dat.owesAt Pipeline.owesWithin
  iintro ⟨H, ⟨%W, -, HO⟩, ⟨%d, HX⟩⟩
  ihave HB := (enter m c W) $$ [H HO HX]
  · isplitl [H]; · iexact H
    isplitl [HO]; · iexact HO
    unfold anyOf; iexists _; iexact HX
  icases HB with ⟨%K, HB⟩
  iapply (body_run m K c) $$ HB
  iintro HA
  ihave HA := (leave m K c) $$ HA
  icases HA with ⟨H, ⟨%W', HO⟩, HX⟩
  isplitl [H]; · iexact H
  isplitl [HO]
  · iexists W'
    isplitr; · ipureintro; exact fun _ _ => Or.inl trivial
    iexact HO
  iexact HX

theorem share_eq (c : Dev nD) (w : Fin cfg0.W) : (dats m ρ 0 c).share w = fullShare := by unfold Dat.share; split <;> rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(start m c ∗ emp) := by
  rw [Pipeline.unscopedRestP_none, unscopedRest0_eq]
  unfold start args
  rw [whole_eq, whole_eq]
  iintro ⟨HA, Hlev, Hcr, -, HG⟩
  ihave Hc := (creds (F := F) c) $$ Hcr
  imodintro
  isplitl
  · isplitl [HG]; · iexact HG
    isplitl [Hlev]; · iexact Hlev
    isplitl [Hc]; · iexact Hc
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  show _ ⊢ Φ₀ m c
  unfold Φ₀
  iintro ⟨Hs, -, Hr⟩
  isplitl [Hs]; · iexact Hs
  iapply (Entails.of_eq (work_eq c)); iexact Hr

theorem phi1_exit (c : Dev nD) :
    (dats m ρ 0 c).Φ (Fin.last cfg0.N) ⊢ iprop((unscopedSems0 c ∗ args m c) ∗ Pipeline.ownSems0 osem c ∗ Pipeline.scopedRest cfg0.spec c) := by
  show Φ₁ m c ⊢ _
  unfold Φ₁
  rw [← work_eq]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 (by fin_cases w <;> fin_cases s <;> exact Nat.le_refl _) (room_zero 0)
    · exact mayWait c _ 18 0 (by fin_cases w <;> fin_cases s <;> exact Nat.le_refl _) (room_zero 18)

/-- At the end an argument array is as launched. -/
theorem args_read (c : Dev nD) (s' : Phys nD τ sig (Elt F)) :
    iprop(args m c ∗ SI s') ⊢ iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') := by
  unfold args
  rw [whole_eq, whole_eq]
  iintro ⟨⟨H0, H1⟩, HS⟩
  icombine HS H0 gives %h0
  icombine HS H1 gives %h1
  isplitr
  · ipureintro; exact ⟨funext fun i => h0 i (Finset.mem_univ i), funext fun i => h1 i (Finset.mem_univ i)⟩
  iexact HS

/-! ## The run -/

/-- The result array ends at the result. -/
theorem final_out (c : Dev nD) : (dats m ρ 0 c).arrAt (0 : Fin 1) cfg0.N = outF m :=
  (dats m ρ 0 c).arrAt_eq_of_after_last (0 : Fin 1) t0_0 (by decide +kernel) (outF m) fun j => rfl

/-- How the kernel ends: the result on every device, the arguments as they were, every semaphore at zero. -/
def Ends (r : PUnit × MemSt nD τ sig (Elt F)) : Prop :=
  (∀ c : Dev nD, r.2.mem ((c : Thread nD τ).loc main_v1) = outF m
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- From any memory with every semaphore at zero, every fair run of the kernel on the four devices ends so. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Ow d 0) (howed₀ := fun _ => rfl) (howedN := fun _ => rfl)
    (L := L) (lv := lv) (hL := L_of_ne) (hwaits := waits m ρ)
    (G := G m) (G' := G' m) (u₀ := u₀)
    (hu₀ := by
      iintro Hu
      ihave H := ownU_split $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      iintro ⟨⟨Hu, Ha⟩, -, HSI⟩
      ihave Ha := (args_read m c s') $$ [Ha HSI]
      · isplitl [Ha] <;> iassumption
      icases Ha with ⟨%ha, HSI⟩
      ihave Hu := (Pipeline.unscopedSems0_read (X := unscopedSems0 c) (c := c) fupd_intro s') $$ [Hu HSI]
      · isplitl [Hu] <;> iassumption
      imod Hu with ⟨%hu, HSI⟩
      imodintro
      isplitr; · ipureintro; exact ⟨hu, ha⟩
      iexact HSI)
    (hQ := fun s h hs => ⟨fun c => ⟨((h c).1 0).trans (final_out m ρ c), (h c).2.2.2⟩, sem_eq_zero hs fun c => (h c).2.2.1⟩)

end Cert.Fused

end
-- ==== Proof.Value.lean ====
/-
  The value of the kernel's result over the extended reals: one entry of it is the sum over all columns of the products
  of the two whole arguments' entries, which is what the reference computes.
-/
module

public import proofs.«01_k».proof.Proof.Pieces
public import proofs.«01_k».proof.Proof.Gen.ReferenceIdeal
public import Idealize.ShloMosaic.Lib.MatmulPlain
public import Idealize.ShloMosaic.Lib.KernelVsHost
public import Idealize.ShloMosaic.Lib.ValueLayout
public import Idealize.ShloMosaic.Lib.Layout

@[expose] public section

set_option maxRecDepth 16384

noncomputable section

namespace Cert.Fused

open Cert.KernelIdeal Cert.KernelIdeal.Gen
open Idealize.ShloMosaic Idealize.ShloMosaic.TcCoe Idealize.ShloMosaic.ValueIdx
open scoped BigOperators

/-! ## Sums cut in two -/

/-- A sum over `k = n + n` places is the sum over the first `n` and the sum over the last `n`. -/
theorem sum_two {M : Type} [AddCommMonoid M] (n k : Nat) (hk : n + n = k) (f : Fin k → M) :
    ∑ x, f x = ∑ x : Fin n, f ⟨x.val, by omega⟩ + ∑ x : Fin n, f ⟨n + x.val, by omega⟩ := by
  subst hk
  exact Fin.sum_univ_add f

/-! ## The fetched pieces -/

variable (m : Mem Ideal)

/-- An entry of a device's first argument, -/
def eA (c : Dev nD) (r : Fin 2048) (x : Fin 8192) : EReal := argA m c (ix2 r x)
/-- and of its second. -/
def eW (c : Dev nD) (r : Fin 2048) (x : Fin 8192) : EReal := argW m c (ix2 r x)

/-- Reading a fetched piece without its leading axis of one is reading the argument at the piece's place. -/
theorem aT_cast (c : Dev nD) (g : Fin 8) (r x : Fin 1024) :
    shapeCast S1024x1024 (aT m c g) shapeCasts_S1x1024x1024_S1024x1024 (ix2 r x)
      = eA m c ⟨1024 * (c.val / 2) + r.val, by have := c.isLt; have h4 : nD = 4 := rfl; omega⟩ ⟨1024 * g.val + x.val, by omega⟩ := by
  show argA m c ((haR c g).emb ((Shape.reshapeEquiv squeezes_S1x1024x1024_S1024x1024.numel_eq).symm
    (Shape.reshapeEquiv _ (ix2 r x)))) = _
  rw [Equiv.symm_apply_apply]
  refine congrArg (argA m c) (funext fun a => Fin.ext ?_)
  match a with
  | ⟨0, _⟩ => show 1024 * (c.val / 2) + 1 * r.val = _; rw [Nat.one_mul]
  | ⟨1, _⟩ => show 1024 * g.val + 1 * x.val = _; rw [Nat.one_mul]

/-- The same of the second argument. -/
theorem wT_cast (c : Dev nD) (t : Fin 16) (r : Fin 512) (x : Fin 2048) :
    shapeCast S512x2048 (wT m c t) shapeCasts_S1x512x2048_S512x2048 (ix2 r x)
      = eW m c ⟨512 * (t.val / 4) + r.val, by omega⟩ ⟨2048 * (t.val % 4) + x.val, by omega⟩ := by
  show argW m c ((hwR t).emb ((Shape.reshapeEquiv squeezes_S1x512x2048_S512x2048.numel_eq).symm
    (Shape.reshapeEquiv _ (ix2 r x)))) = _
  rw [Equiv.symm_apply_apply]
  refine congrArg (argW m c) (funext fun a => Fin.ext ?_)
  match a with
  | ⟨0, _⟩ => show 512 * (t.val / 4) + 1 * r.val = _; rw [Nat.one_mul]
  | ⟨1, _⟩ => show 2048 * (t.val % 4) + 1 * x.val = _; rw [Nat.one_mul]

/-- The gathered rows of the first argument are the argument's own rows. -/
theorem aF_at (c : Dev nD) (i : S1024x8192.Idx) :
    aF m c i = eA m c ⟨1024 * (c.val / 2) + (i 0).val, by have := c.isLt; have h4 : nD = 4 := rfl; have := idx2_lt0 i; omega⟩ (i 1) := by
  have h1 := idx2_lt1 i
  show shapeCast S1024x1024 (truncf .bf16 (shapeCast S1024x1024 (aT m c ⟨(i 1).val / 1024, _⟩) _) bitsLt_bf16_f32) _ (ix2 (i 0) ⟨(i 1).val % 1024, _⟩) = _
  rw [shapeCast_self]
  refine (aT_cast m c ⟨(i 1).val / 1024, by omega⟩ (i 0) ⟨(i 1).val % 1024, Nat.mod_lt _ (by decide)⟩).trans ?_
  exact congrArg (eA m c _) (Fin.ext (Nat.div_add_mod _ _))

theorem aK_at (c : Dev nD) (k : Fin 4) (r : Fin 1024) (x : Fin 2048) :
    aK m c k (ix2 r x)
      = eA m c ⟨1024 * (c.val / 2) + r.val, by have := c.isLt; have h4 : nD = 4 := rfl; omega⟩ ⟨2048 * k.val + x.val, by omega⟩ := by
  refine (aF_at m c _).trans ?_
  refine congrArg₂ (eA m c) (Fin.ext ?_) (Fin.ext ?_)
  · show 1024 * (c.val / 2) + (0 + 1 * r.val) = _
    rw [Nat.one_mul, Nat.zero_add]
  · show 2048 * k.val + 1 * x.val = _
    rw [Nat.one_mul]

/-! ## The products and their sums -/

/-- The part of an entry of the product that column piece `k` of device `c` gives. -/
def part (c : Dev nD) (k : Fin 4) (r n : Fin 2048) : EReal :=
  ∑ x : Fin 2048, eA m c r ⟨2048 * k.val + x.val, by omega⟩ * eW m c n ⟨2048 * k.val + x.val, by omega⟩
/-- The part that all columns of device `c` give. -/
def whole (c : Dev nD) (r n : Fin 2048) : EReal := ∑ x : Fin 8192, eA m c r x * eW m c n x

/-- Four column pieces make the whole. -/
theorem part_sum (c : Dev nD) (r n : Fin 2048) :
    part m c 0 r n + part m c 1 r n + part m c 2 r n + part m c 3 r n = whole m c r n := by
  unfold whole
  rw [sum_two 4096 8192 rfl, sum_two 2048 4096 rfl, sum_two 2048 4096 rfl, add_assoc (part m c 0 r n + part m c 1 r n)]
  refine congrArg₂ (· + ·) (congrArg₂ (· + ·) ?_ ?_) (congrArg₂ (· + ·) ?_ ?_) <;>
    refine Finset.sum_congr rfl fun x _ => congrArg₂ (· * ·) (congrArg (eA m c r) (Fin.ext ?_)) (congrArg (eW m c n) (Fin.ext ?_)) <;>
    simp only [Fin.val_zero, Fin.val_one, Fin.val_two, Fin.isValue, Fin.reduceFinMk, Nat.mul_zero, Nat.mul_one, Nat.zero_add] <;>
    first | rfl | (show 2048 * 3 + _ = _; omega) | omega

/-- Row `r` of a device's row half, as a row of the whole. -/
def rowOf (c : Dev nD) (r : Fin 1024) : Fin 2048 :=
  ⟨1024 * (c.val / 2) + r.val, by have := c.isLt; have h4 : nD = 4 := rfl; omega⟩
/-- Row `n` of a column block's rows of the second argument, as a row of the whole. -/
def colOf (j : Fin 4) (n : Fin 512) : Fin 2048 := ⟨512 * j.val + n.val, by omega⟩

/-- One product of the kernel is its column piece's part. -/
theorem prod_at (c : Dev nD) (k j : Fin 4) (t : Fin 16) (ht : t.val = 4 * j.val + k.val) (r : Fin 1024) (n : Fin 512) :
    prod m c k t (ix2 r n) = part m c k (rowOf c r) (colOf j n) := by
  refine (Ideal.matmul_transposedRhs_apply none (aK m c k)
    (truncf .bf16 (shapeCast S512x2048 (wT m c t) shapeCasts_S1x512x2048_S512x2048) bitsLt_bf16_f32 : FVec Ideal S512x2048 .bf16)
    (constant S1024x512 .f32 0x00000000#32) r n).trans ?_
  have hz : (constant S1024x512 .f32 0x00000000#32 : FVec Ideal S1024x512 .f32) (ix2 r n) = (0 : EReal) := Ideal.ofBits_zero_f32
  rw [hz, zero_add]
  refine Finset.sum_congr rfl fun x _ => congrArg₂ (· * ·) (aK_at m c k r x) ((wT_cast m c t n x).trans ?_)
  refine congrArg₂ (eW m c) (Fin.ext ?_) (Fin.ext ?_)
  · show 512 * (t.val / 4) + n.val = 512 * j.val + n.val
    omega
  · show 2048 * (t.val % 4) + x.val = 2048 * k.val + x.val
    omega

/-- A step of an accumulator adds one product. -/
theorem step_at (c : Dev nD) (k : Fin 4) (t : Fin 16) (X : S1x1024x512.Idx → Elt Ideal .f32) (r : Fin 1024) (n : Fin 512) :
    k0_pay11 (F := Ideal) (aK m c k) (wT m c t) X (ix3 0 r n) = (X (ix3 0 r n) + prod m c k t (ix2 r n) : EReal) := by
  show shapeCast S1x1024x512 (addf (F := Ideal) (shapeCast S1024x512 X shapeCasts_S1x1024x512_S1024x512) (prod m c k t)) _ (ix3 0 r n) = _
  rw [shapeCast_ab_1ab_apply]
  exact congrArg (fun z : EReal => z + prod m c k t (ix2 r n)) (shapeCast_1ab_ab_apply X shapeCasts_S1x1024x512_S1024x512 r n)

/-- The last accumulator of a column block is the sum over all the device's columns. -/
theorem acc3_at (c : Dev nD) (j : Fin 4) (r : Fin 1024) (n : Fin 512) :
    acc3 m c j (ix3 0 r n) = whole m c (rowOf c r) (colOf j n) := by
  have h0 : acc0 m c j (ix3 0 r n) = part m c 0 (rowOf c r) (colOf j n) := by
    refine (shapeCast_ab_1ab_apply (prod m c 0 ⟨4 * j.val, _⟩) shapeCasts_S1024x512_S1x1024x512 0 r n).trans ?_
    exact prod_at m c 0 j _ rfl r n
  rw [← part_sum]
  unfold acc3 acc2 acc1
  rw [step_at, step_at, step_at, h0, prod_at m c 1 j _ rfl, prod_at m c 2 j _ rfl, prod_at m c 3 j _ rfl]

/-- The piece of the result a device finishes is its own sum and its neighbour's. -/
theorem sumV_at (c j : Fin 4) (r n : Fin 512) :
    sumV m c j (ix2 r n)
      = (whole m c ⟨512 * c.val + r.val, by omega⟩ (colOf j n) + whole m (yn c) ⟨512 * c.val + r.val, by omega⟩ (colOf j n) : EReal) := by
  have ha : shapeCast S512x512 (accH m c j (half c)) shapeCasts_S1x512x512_S512x512 (ix2 r n)
      = whole m c ⟨512 * c.val + r.val, by omega⟩ (colOf j n) := by
    rw [shapeCast_1ab_ab_apply]
    refine (acc3_at m c j ⟨512 * (c.val % 2) + r.val, by omega⟩ n).trans ?_
    exact congrArg (whole m c · (colOf j n)) (Fin.ext (by show 1024 * (c.val / 2) + (512 * (c.val % 2) + r.val) = 512 * c.val + r.val; omega))
  have hb : rsV m (yn c) j (ix2 r n) = whole m (yn c) ⟨512 * c.val + r.val, by omega⟩ (colOf j n) := by
    show shapeCast S512x512 (shapeCast S1x512x512 (truncf .bf16 (shapeCast S512x512 (accH m (yn c) j (otherHalf (yn c))) shapeCasts_S1x512x512_S512x512) bitsLt_bf16_f32) shapeCasts_S512x512_S1x512x512) shapeCasts_S1x512x512_S512x512 (ix2 r n) = _
    rw [shapeCast_1ab_ab_apply, shapeCast_ab_1ab_apply]
    show shapeCast S512x512 (accH m (yn c) j (otherHalf (yn c))) shapeCasts_S1x512x512_S512x512 (ix2 r n) = _
    rw [shapeCast_1ab_ab_apply]
    refine (acc3_at m (yn c) j ⟨512 * (1 - (yn c).val % 2) + r.val, by omega⟩ n).trans ?_
    refine congrArg (whole m (yn c) · (colOf j n)) (Fin.ext ?_)
    show 1024 * ((yn c).val / 2) + (512 * (1 - (yn c).val % 2) + r.val) = 512 * c.val + r.val
    have hy : (yn c).val = (2 * (c.val / 2) + 1) - c.val % 2 := rfl
    omega
  exact congrArg₂ (fun x y : EReal => x + y) ha hb

/-- An entry of the result: the sums of the device that finishes it and of that device's neighbour. -/
theorem outF_at (r n : Fin 2048) :
    ∃ q : Dev nD, outF m (ix2 r n) = (whole m q r n + whole m (yn q) r n : EReal) := by
  refine ⟨⟨r.val / 512, by show _ < 4; omega⟩, (sumV_at m ⟨r.val / 512, by omega⟩ ⟨n.val / 512, by omega⟩ ⟨r.val % 512, _⟩ ⟨n.val % 512, _⟩).trans ?_⟩
  have hr : (⟨512 * (r.val / 512) + r.val % 512, by omega⟩ : Fin 2048) = r := Fin.ext (Nat.div_add_mod _ _)
  have hn : colOf ⟨n.val / 512, by omega⟩ ⟨n.val % 512, Nat.mod_lt _ (by decide)⟩ = n := Fin.ext (Nat.div_add_mod _ _)
  exact congrArg₂ (fun a b : Fin 2048 => (whole m _ a b + whole m _ a b : EReal)) hr hn

/-! ## The reference -/

/-- What the reference makes of the two whole arguments. -/
def refOut (A W : Cert.ReferenceIdeal.S2048x16384.Idx → EReal) : S2048x2048.Idx → EReal :=
  truncf (F := Ideal) .bf16 (Host.dotGeneral (F := Ideal) (φ₁ := .f32) (φ₂ := .f32) Cert.ReferenceIdeal.dot_S2048x16384_S16384x2048_S2048x2048_1_0_0_1_n_n none A
    (transpose Cert.ReferenceIdeal.S16384x2048 [1, 0] W Cert.ReferenceIdeal.Gen.transposes_S2048x16384_S16384x2048_1_0)) Cert.ReferenceIdeal.Gen.bitsLt_bf16_f32

/-- An entry of it is a sum over all columns. -/
theorem refOut_at (A W : Cert.ReferenceIdeal.S2048x16384.Idx → EReal) (r n : Fin 2048) :
    refOut A W (ix2 r n) = ∑ x : Fin 16384, A (ix2 r x) * W (ix2 n x) := by
  show Host.dotGeneral (F := Ideal) (φ₁ := .f32) (φ₂ := .f32) (DotDims.plain 2048 16384 2048) none A
    (transpose Cert.ReferenceIdeal.S16384x2048 [1, 0] W Cert.ReferenceIdeal.Gen.transposes_S2048x16384_S16384x2048_1_0) (ix2 r n) = _
  rw [← matmul_zero_eq_dotGeneral]
  refine (Ideal.matmul_plain_apply none _ _ _ r n).trans ?_
  have hz : (constant S2048x2048 .f32 0x00000000#32 : FVec Ideal S2048x2048 .f32) (ix2 r n) = (0 : EReal) := Ideal.ofBits_zero_f32
  rw [hz, zero_add]
  refine Finset.sum_congr rfl fun x _ => congrArg (A (ix2 r x) * ·) ?_
  exact transpose_apply _ W _ _ _ fun b => by
    match b with
    | ⟨0, _⟩ => rfl
    | ⟨1, _⟩ => rfl

/-! ## The two agree -/

/-- Device `c` holds, of each whole argument, the columns `8192 (c % 2) …`. -/
def Holds (A W : Cert.ReferenceIdeal.S2048x16384.Idx → EReal) : Prop :=
  ∀ c : Dev nD,
    argA m c = Layout.blockN ⟨2, ![2048, 8192]⟩ ⟨2, ![2048, 16384]⟩ (Layout.meshBlock [2, 2] ![[], [1]] c) A
    ∧ argW m c = Layout.blockN ⟨2, ![2048, 8192]⟩ ⟨2, ![2048, 16384]⟩ (Layout.meshBlock [2, 2] ![[], [1]] c) W

/-- An entry of a device's block is the whole argument's entry at the block's place. -/
theorem block_at (V : Cert.ReferenceIdeal.S2048x16384.Idx → EReal) (c : Dev nD) (r : Fin 2048) (x : Fin 8192) :
    Layout.blockN ⟨2, ![2048, 8192]⟩ ⟨2, ![2048, 16384]⟩ (Layout.meshBlock [2, 2] ![[], [1]] c) V (by decide) (ix2 r x)
      = V (ix2 r ⟨8192 * (c.val % 2) + x.val, by omega⟩) := by
  refine congrArg V (funext fun a => Fin.ext ?_)
  rw [Layout.TilesN.idx_val]
  match a with
  | ⟨0, _⟩ => show 0 * 2048 + r.val = r.val; omega
  | ⟨1, _⟩ =>
    show (c.val / 1 % 2 * 1 + 0) * 8192 + x.val = 8192 * (c.val % 2) + x.val
    omega

variable {m}

/-- A device's sum is the sum over its columns of the whole arguments. -/
theorem whole_at {A W : Cert.ReferenceIdeal.S2048x16384.Idx → EReal} (h : Holds m A W) (c : Dev nD) (b : Nat) (hb : c.val % 2 = b)
    (hb2 : b < 2) (r n : Fin 2048) :
    whole m c r n = ∑ x : Fin 8192, A (ix2 r ⟨8192 * b + x.val, by omega⟩) * W (ix2 n ⟨8192 * b + x.val, by omega⟩) := by
  subst hb
  refine Finset.sum_congr rfl fun x _ => congrArg₂ (· * ·) ?_ ?_
  · exact (congrFun (h c).1 (ix2 r x)).trans (block_at A c r x)
  · exact (congrFun (h c).2 (ix2 n x)).trans (block_at W c n x)

/-- The kernel's result is the reference's. -/
theorem outF_eq {A W : Cert.ReferenceIdeal.S2048x16384.Idx → EReal} (h : Holds m A W) : outF m = refOut A W := by
  funext i
  obtain ⟨r, n, rfl⟩ : ∃ r n : Fin 2048, i = ix2 r n := ⟨i 0, i 1, eq_ix2 i⟩
  obtain ⟨q, hq⟩ := outF_at m r n
  rw [refOut_at, sum_two 8192 16384 rfl]
  refine hq.trans ?_
  have hy : (yn q).val = (2 * (q.val / 2) + 1) - q.val % 2 := rfl
  have e0 : ∀ c : Dev nD, c.val % 2 = 0 → whole m c r n = ∑ x : Fin 8192, A (ix2 r ⟨x.val, by omega⟩) * W (ix2 n ⟨x.val, by omega⟩) := fun c hc =>
    (whole_at h c 0 hc (by decide) r n).trans (Finset.sum_congr rfl fun x _ =>
      congrArg₂ (fun a b : Fin 16384 => A (ix2 r a) * W (ix2 n b)) (Fin.ext (Nat.zero_add _)) (Fin.ext (Nat.zero_add _)))
  have e1 : ∀ c : Dev nD, c.val % 2 = 1 → whole m c r n = ∑ x : Fin 8192, A (ix2 r ⟨8192 + x.val, by omega⟩) * W (ix2 n ⟨8192 + x.val, by omega⟩) := fun c hc =>
    whole_at h c 1 hc (by decide) r n
  rcases Nat.mod_two_eq_zero_or_one q.val with hp | hp
  · rw [e0 q hp, e1 (yn q) (by omega)]
  · rw [e1 q hp, e0 (yn q) (by omega)]
    exact add_comm _ _

end Cert.Fused

end
-- ==== Proof.lean ====
/- The claims about the kernel: it runs to its end and leaves its arguments and its counters as they were, at bit-exact
   values and over the extended reals, and over the extended reals its result on every device is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-! ## The two printings of the kernel -/

section Same

variable {F : FTy → Type} [FloatOps F]

/-- The kernel and the copy of it read over the extended reals have the same body, -/
theorem bodies_eq : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- and so the same table of bodies. -/
theorem tables_eq : Cert.Kernel.defs (F := F) = Cert.KernelIdeal.defs :=
  congrArg (Pipeline.defs Cert.KernelIdeal.pcfgs) bodies_eq

end Same

/-! ## The claims -/

/-- The kernel at bit-exact values: its arguments and counters end as they began. -/
theorem frame_kernel : Cert.quiescent_Kernel := by
  intro m ρ _
  rw [tables_eq]
  exact (θ_run Cert.KernelIdeal.defs _ _).mono
    (Q' := fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0)
    (fun r h => ⟨fun c => (h.1 c).2, h.2⟩) (Cert.Fused.run_main (F := Bits) m ρ)

/-- The kernel over the extended reals. -/
theorem frame_kernelIdeal : Cert.quiescent_KernelIdeal := fun m ρ _ =>
  (θ_run Cert.KernelIdeal.defs _ _).mono (fun _ h => ⟨fun c => (h.1 c).2, h.2⟩) (Cert.Fused.run_main (F := Ideal) m ρ)

/-- The reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that are the devices' blocks of the reference's, every device's result is the reference's. -/
theorem algebraic : Cert.algebraic_KernelIdeal_ReferenceIdeal := by
  intro m ρ m' ρ' _ hagree
  have he := Cert.Fused.outF_eq (m := m) hagree
  refine ⟨Cert.Fused.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono (fun _ h c => ⟨(h.1 c).1.trans he, (h.1 c).2⟩) (Cert.Fused.run_main (F := Ideal) m ρ)
  · exact (θ_run Cert.ReferenceIdeal.defs _ _).mono (fun _ h => h 0) (Cert.ReferenceIdeal.Value.run (F := Ideal) m' ρ')

/-- All of it. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
